-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_in_range_KernelIdeal [hPre_finite_and_in_range_KernelIdeal : Cert.Pre_finite_and_in_range_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_in_range_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_and_in_range_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite_and_in_range_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_in_range_ReferenceIdeal [hPre_finite_and_in_range_ReferenceIdeal : Cert.Pre_finite_and_in_range_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_in_range_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_and_in_range_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite_and_in_range_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_and_in_range_KernelIdeal [hKernelIdeal : Cert.KernelIdeal.Facts] [hPre_finite_and_in_range_KernelIdeal : Cert.Pre_finite_and_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_in_range_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_and_in_range_ReferenceIdeal [hReferenceIdeal : Cert.ReferenceIdeal.Facts] [hPre_finite_and_in_range_ReferenceIdeal : Cert.Pre_finite_and_in_range_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_in_range_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_and_in_range_KernelIdeal [hKernelIdeal : Cert.KernelIdeal.Facts] [hReferenceIdeal : Cert.ReferenceIdeal.Facts] [hPre_finite_and_in_range_KernelIdeal : Cert.Pre_finite_and_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_in_range_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![512, 4096]⟩ ⟨2, ![512, 8192]⟩ (Layout.meshBlock [2, 2, 2] ![[], [1]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v28) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_and_in_range_KernelIdeal : Cert.Pre_finite_and_in_range_KernelIdeal.Facts) (hPre_finite_and_in_range_ReferenceIdeal : Cert.Pre_finite_and_in_range_ReferenceIdeal.Facts),
    quiescent_Kernel (hKernel := hKernel)
    ∧ quiescent_KernelIdeal (hKernelIdeal := hKernelIdeal)
    ∧ quiescent_KernelIdeal_pre_finite_and_in_range_KernelIdeal (hKernelIdeal := hKernelIdeal) (hPre_finite_and_in_range_KernelIdeal := hPre_finite_and_in_range_KernelIdeal)
    ∧ quiescent_ReferenceIdeal (hReferenceIdeal := hReferenceIdeal)
    ∧ quiescent_ReferenceIdeal_pre_finite_and_in_range_ReferenceIdeal (hReferenceIdeal := hReferenceIdeal) (hPre_finite_and_in_range_ReferenceIdeal := hPre_finite_and_in_range_ReferenceIdeal)
    ∧ preserves_Kernel_KernelIdeal
    ∧ algebraic_KernelIdeal_ReferenceIdeal_pre_finite_and_in_range_KernelIdeal (hKernelIdeal := hKernelIdeal) (hReferenceIdeal := hReferenceIdeal) (hPre_finite_and_in_range_KernelIdeal := hPre_finite_and_in_range_KernelIdeal)
-- ==== Pre_finite_and_in_range_KernelIdeal.lean ====
abbrev S256x512 : Shape := ⟨2, ![256, 512]⟩
abbrev S512x4096 : Shape := ⟨2, ![512, 4096]⟩
abbrev S256 : Shape := ⟨1, ![256]⟩
abbrev S_ : Shape := ⟨0, ![]⟩

class Facts : Prop where
  bcast_S_S256x512 : S_.BroadcastsInDim S256x512 (![] : Fin 0 → Fin S256x512.rank)
  bcast_S_S512x4096 : S_.BroadcastsInDim S512x4096 (![] : Fin 0 → Fin S512x4096.rank)
  bcast_S_S256 : S_.BroadcastsInDim S256 (![] : Fin 0 → Fin S256.rank)

variable [Facts]

def fn {F : FTy → Type} [FloatOps F] (main_arg0 : FVec F S256x512 .bf16) (main_arg1 : FVec F S512x4096 .bf16) (main_arg2 : IVec S256 32) : IVec S256x512 1 × IVec S512x4096 1 × IVec S256 1 :=
  let main_cst : FVec F S_ .bf16 := constant S_ .bf16 0xFF80#16
  let main_v0 : FVec F S256x512 .bf16 := broadcastInDim S256x512 ![] bcast_S_S256x512 main_cst
  let main_v1 : IVec S256x512 1 := cmpf .ogt main_arg0 main_v0
  let main_cst_0 : FVec F S_ .bf16 := constant S_ .bf16 0x7F80#16
  let main_v2 : FVec F S256x512 .bf16 := broadcastInDim S256x512 ![] bcast_S_S256x512 main_cst_0
  let main_v3 : IVec S256x512 1 := cmpf .olt main_arg0 main_v2
  let main_v4 : IVec S256x512 1 := andi main_v1 main_v3
  let main_cst_1 : FVec F S_ .bf16 := constant S_ .bf16 0xFF80#16
  let main_v5 : FVec F S512x4096 .bf16 := broadcastInDim S512x4096 ![] bcast_S_S512x4096 main_cst_1
  let main_v6 : IVec S512x4096 1 := cmpf .ogt main_arg1 main_v5
  let main_cst_2 : FVec F S_ .bf16 := constant S_ .bf16 0x7F80#16
  let main_v7 : FVec F S512x4096 .bf16 := broadcastInDim S512x4096 ![] bcast_S_S512x4096 main_cst_2
  let main_v8 : IVec S512x4096 1 := cmpf .olt main_arg1 main_v7
  let main_v9 : IVec S512x4096 1 := andi main_v6 main_v8
  let main_c : IVec S_ 32 := constantI S_ 32 0#32
  let main_v10 : IVec S256 32 := broadcastInDim S256 ![] bcast_S_S256 main_c
  let main_v11 : IVec S256 1 := cmpi .sge main_arg2 main_v10
  let main_c_3 : IVec S_ 32 := constantI S_ 32 8192#32
  let main_v12 : IVec S256 32 := broadcastInDim S256 ![] bcast_S_S256 main_c_3
  let main_v13 : IVec S256 1 := cmpi .slt main_arg2 main_v12
  let main_v14 : IVec S256 1 := andi main_v11 main_v13
  (main_v4, main_v9, main_v14)
-- ==== Pre_finite_and_in_range_ReferenceIdeal.lean ====
abbrev S256x512 : Shape := ⟨2, ![256, 512]⟩
abbrev S512x8192 : Shape := ⟨2, ![512, 8192]⟩
abbrev S256 : Shape := ⟨1, ![256]⟩
abbrev S_ : Shape := ⟨0, ![]⟩

class Facts : Prop where
  bcast_S_S256x512 : S_.BroadcastsInDim S256x512 (![] : Fin 0 → Fin S256x512.rank)
  bcast_S_S512x8192 : S_.BroadcastsInDim S512x8192 (![] : Fin 0 → Fin S512x8192.rank)
  bcast_S_S256 : S_.BroadcastsInDim S256 (![] : Fin 0 → Fin S256.rank)

variable [Facts]

def fn {F : FTy → Type} [FloatOps F] (main_arg0 : FVec F S256x512 .bf16) (main_arg1 : FVec F S512x8192 .bf16) (main_arg2 : IVec S256 32) : IVec S256x512 1 × IVec S512x8192 1 × IVec S256 1 :=
  let main_cst : FVec F S_ .bf16 := constant S_ .bf16 0xFF80#16
  let main_v0 : FVec F S256x512 .bf16 := broadcastInDim S256x512 ![] bcast_S_S256x512 main_cst
  let main_v1 : IVec S256x512 1 := cmpf .ogt main_arg0 main_v0
  let main_cst_0 : FVec F S_ .bf16 := constant S_ .bf16 0x7F80#16
  let main_v2 : FVec F S256x512 .bf16 := broadcastInDim S256x512 ![] bcast_S_S256x512 main_cst_0
  let main_v3 : IVec S256x512 1 := cmpf .olt main_arg0 main_v2
  let main_v4 : IVec S256x512 1 := andi main_v1 main_v3
  let main_cst_1 : FVec F S_ .bf16 := constant S_ .bf16 0xFF80#16
  let main_v5 : FVec F S512x8192 .bf16 := broadcastInDim S512x8192 ![] bcast_S_S512x8192 main_cst_1
  let main_v6 : IVec S512x8192 1 := cmpf .ogt main_arg1 main_v5
  let main_cst_2 : FVec F S_ .bf16 := constant S_ .bf16 0x7F80#16
  let main_v7 : FVec F S512x8192 .bf16 := broadcastInDim S512x8192 ![] bcast_S_S512x8192 main_cst_2
  let main_v8 : IVec S512x8192 1 := cmpf .olt main_arg1 main_v7
  let main_v9 : IVec S512x8192 1 := andi main_v6 main_v8
  let main_c : IVec S_ 32 := constantI S_ 32 0#32
  let main_v10 : IVec S256 32 := broadcastInDim S256 ![] bcast_S_S256 main_c
  let main_v11 : IVec S256 1 := cmpi .sge main_arg2 main_v10
  let main_c_3 : IVec S_ 32 := constantI S_ 32 8192#32
  let main_v12 : IVec S256 32 := broadcastInDim S256 ![] bcast_S_S256 main_c_3
  let main_v13 : IVec S256 1 := cmpi .slt main_arg2 main_v12
  let main_v14 : IVec S256 1 := andi main_v11 main_v13
  (main_v4, main_v9, main_v14)
-- ==== Kernel.lean ====
abbrev S256x512 : Shape := ⟨2, ![256, 512]⟩
abbrev S512x4096 : Shape := ⟨2, ![512, 4096]⟩
abbrev S256 : Shape := ⟨1, ![256]⟩
abbrev S2x1x512 : Shape := ⟨3, ![2, 1, 512]⟩
abbrev S_ : Shape := ⟨0, ![]⟩
abbrev S256x4096 : Shape := ⟨2, ![256, 4096]⟩
abbrev S256x1 : Shape := ⟨2, ![256, 1]⟩
abbrev S1x1x256 : Shape := ⟨3, ![1, 1, 256]⟩
abbrev S1x1x512 : Shape := ⟨3, ![1, 1, 512]⟩
abbrev S1x512 : Shape := ⟨2, ![1, 512]⟩

abbrev nBuf : Space → Nat
  | .hbm => 4
  | .vmem => 5
  | .smem => 0
  | _ => 0

abbrev bufTy : (tb : Table) → Fin (tcTables nBuf tb) → BufTy
  | .hbm, ⟨0, _⟩ => ⟨S256x512, .bf16⟩
  | .hbm, ⟨1, _⟩ => ⟨S512x4096, .bf16⟩
  | .hbm, ⟨2, _⟩ => ⟨S256, .i32⟩
  | .hbm, ⟨3, _⟩ => ⟨S256, .f32⟩
  | .local _ .vmem, ⟨0, _⟩ => ⟨S256x512, .bf16⟩
  | .local _ .vmem, ⟨1, _⟩ => ⟨S512x4096, .bf16⟩
  | .local _ .vmem, ⟨2, _⟩ => ⟨S256, .i32⟩
  | .local _ .vmem, ⟨3, _⟩ => ⟨S256, .f32⟩
  | .local _ .vmem, ⟨4, _⟩ => ⟨S2x1x512, .f32⟩
  | _, _ => ⟨S256x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  (ofTc nBuf bufTy 1 6 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v11 : BitVec 32 := Scalar.muli v2 c4_i32_5
  let v12 : BitVec 32 := Scalar.addi c0_i32 v11
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_6 : BitVec 32 := 2#32
  let v13 : BitVec 32 := Scalar.muli v9 c2_i32_6
  let v14 : BitVec 32 := Scalar.addi v12 v13
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_7 : BitVec 32 := 1#32
  let v15 : BitVec 32 := Scalar.muli v8 c1_i32_7
  let v16 : BitVec 32 := Scalar.addi v14 v15
  v16.toNat
def k0_dev2 (d0 : Dev nD) : Nat :=
  let c0_i32_24 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_23 : BitVec 32 := 4#32
  let v42 : BitVec 32 := Scalar.muli v2 c4_i32_23
  let v43 : BitVec 32 := Scalar.addi c0_i32_24 v42
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_25 : BitVec 32 := 2#32
  let v44 : BitVec 32 := Scalar.muli v9 c2_i32_25
  let v45 : BitVec 32 := Scalar.addi v43 v44
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_26 : BitVec 32 := 1#32
  let v46 : BitVec 32 := Scalar.muli v8 c1_i32_26
  let v47 : BitVec 32 := Scalar.addi v45 v46
  v47.toNat
abbrev stage0_0 : Fin 1 → Memref sig .tc .vmem S256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S256x512 : Shape := ⟨2, ![256, 512]⟩
abbrev S512x8192 : Shape := ⟨2, ![512, 8192]⟩
abbrev S256 : Shape := ⟨1, ![256]⟩
abbrev S256x8192 : Shape := ⟨2, ![256, 8192]⟩
abbrev S_ : Shape := ⟨0, ![]⟩
abbrev S256x1 : Shape := ⟨2, ![256, 1]⟩
abbrev S256x2 : Shape := ⟨2, ![256, 2]⟩

abbrev nBuf : Space → Nat
  | .hbm => 38
  | .vmem => 0
  | .smem => 0
  | _ => 0

abbrev bufTy : (tb : Table) → Fin (tcTables nBuf tb) → BufTy
  | .hbm, ⟨0, _⟩ => ⟨S256x512, .bf16⟩
  | .hbm, ⟨1, _⟩ => ⟨S512x8192, .bf16⟩
  | .hbm, ⟨2, _⟩ => ⟨S256, .i32⟩
  | .hbm, ⟨3, _⟩ => ⟨S256x512, .f32⟩
  | .hbm, ⟨4, _⟩ => ⟨S512x8192, .f32⟩
  | .hbm, ⟨5, _⟩ => ⟨S256x8192, .f32⟩
  | .hbm, ⟨6, _⟩ => ⟨S_, .f32⟩
  | .hbm, ⟨7, _⟩ => ⟨S256, .f32⟩
  | .hbm, ⟨8, _⟩ => ⟨S256x1, .f32⟩
  | .hbm, ⟨9, _⟩ => ⟨S256x8192, .f32⟩
  | .hbm, ⟨10, _⟩ => ⟨S256x8192, .f32⟩
  | .hbm, ⟨11, _⟩ => ⟨S256x8192, .f32⟩
  | .hbm, ⟨12, _⟩ => ⟨S_, .f32⟩
  | .hbm, ⟨13, _⟩ => ⟨S256, .f32⟩
  | .hbm, ⟨14, _⟩ => ⟨S256x1, .f32⟩
  | .hbm, ⟨15, _⟩ => ⟨S256x1, .f32⟩
  | .hbm, ⟨16, _⟩ => ⟨S256x1, .f32⟩
  | .hbm, ⟨17, _⟩ => ⟨S256, .f32⟩
  | .hbm, ⟨18, _⟩ => ⟨S256, .i32⟩
  | .hbm, ⟨19, _⟩ => ⟨S_, .i32⟩
  | .hbm, ⟨20, _⟩ => ⟨S256, .i32⟩
  | .hbm, ⟨21, _⟩ => ⟨S256, .i1⟩
  | .hbm, ⟨22, _⟩ => ⟨S_, .i32⟩
  | .hbm, ⟨23, _⟩ => ⟨S256, .i32⟩
  | .hbm, ⟨24, _⟩ => ⟨S256, .i32⟩
  | .hbm, ⟨25, _⟩ => ⟨S256, .i32⟩
  | .hbm, ⟨26, _⟩ => ⟨S_, .i32⟩
  | .hbm, ⟨27, _⟩ => ⟨S256, .i32⟩
  | .hbm, ⟨28, _⟩ => ⟨S256, .i1⟩
  | .hbm, ⟨29, _⟩ => ⟨S_, .i32⟩
  | .hbm, ⟨30, _⟩ => ⟨S256, .i32⟩
  | .hbm, ⟨31, _⟩ => ⟨S256, .i32⟩
  | .hbm, ⟨32, _⟩ => ⟨S256, .i32⟩
  | .hbm, ⟨33, _⟩ => ⟨S256x1, .i32⟩
  | .hbm, ⟨34, _⟩ => ⟨S256x1, .i32⟩
  | .hbm, ⟨35, _⟩ => ⟨S256x2, .i32⟩
  | .hbm, ⟨36, _⟩ => ⟨S256, .f32⟩
  | .hbm, ⟨37, _⟩ => ⟨S256, .f32⟩
  | _, _ => ⟨S256x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c : Ref sig .tc := ⟨.hbm, 19, rfl⟩
abbrev main_v14 : Ref sig .tc := ⟨.hbm, 20, rfl⟩
abbrev main_v15 : Ref sig .tc := ⟨.hbm, 21, rfl⟩
abbrev main_c_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c_2 : Ref sig .tc := ⟨.hbm, 26, rfl⟩
abbrev main_v19 : Ref sig .tc := ⟨.hbm, 27, rfl⟩
abbrev main_v20 : Ref sig .tc := ⟨.hbm, 28, rfl⟩
abbrev main_c_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]
-- ==== Proof.Slots.lean ====
/- The communication buffer, `f32[2, 1, 512]`: plane 0 is what the device sends, plane 1 what it receives. In a plane the
   first 256 entries are the rows' sums of exponentials, the last 256 their label logits. This file says which elements a
   plane has, and how two stores, a copy and two loads act on the planes. -/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Tactic

@[expose] public section

noncomputable section

namespace Cert.Exchange

open Cert.KernelIdeal Cert.KernelIdeal.Gen
open Idealize.ShloMosaic Idealize.ShloMosaic.TcCoe

variable {F : FTy → Type} [FloatOps F]

/-! ## The planes -/

/-- The communication buffer whole. -/
abbrev comm : Memref sig .tc .vmem S2x1x512 .f32 := Memref.whole cc0_scratch0

/-- Plane 0: the transfer's source. -/
abbrev outgoing : Memref sig .tc .vmem S1x512 .f32 :=
  (comm.slice (Rect.unit (s := S2x1x512) ![0, 0, 0] S1x1x512.size inb_S2x1x512_S1x1x512_0_0_0) (fun _ => rfl)).squeeze S1x512
    squeezes_S1x1x512_S1x512
/-- Plane 1: the transfer's destination. -/
abbrev incoming : Memref sig .tc .vmem S1x512 .f32 :=
  (comm.slice (Rect.unit (s := S2x1x512) ![1, 0, 0] S1x1x512.size inb_S2x1x512_S1x1x512_1_0_0) (fun _ => rfl)).squeeze S1x512
    squeezes_S1x1x512_S1x512

/-- The elements of plane 0 and of plane 1. -/
abbrev outSet : Finset S2x1x512.Idx := outgoing.view.set
abbrev inSet : Finset S2x1x512.Idx := incoming.view.set

/-- An element lies in plane 0 when its first coordinate is 0; -/
theorem mem_outSet (i : S2x1x512.Idx) : i ∈ outSet ↔ (i 0).val = 0 := by
  have e : outSet = (Rect.unit (s := S2x1x512) ![0, 0, 0] S1x1x512.size inb_S2x1x512_S1x1x512_0_0_0).set :=
    (Memref.set_view_squeeze _ _).trans (View.set_slice_whole _ _)
  rw [e, LoadRect.mem_set]
  constructor
  · intro h
    obtain ⟨j, hj, hi⟩ := h 0
    have hj' : j < 1 := hj
    have hi' : (i 0).val = 0 + 1 * j := hi
    omega
  · intro h a
    refine ⟨(i a).val, ?_, ?_⟩
    · fin_cases a
      · show (i 0).val < 1; omega
      · exact (i 1).isLt
      · exact (i 2).isLt
    · fin_cases a
      · show (i 0).val = 0 + 1 * (i 0).val; omega
      · show (i 1).val = 0 + 1 * (i 1).val; omega
      · show (i 2).val = 0 + 1 * (i 2).val; omega

/-- in plane 1 when it is 1. -/
theorem mem_inSet (i : S2x1x512.Idx) : i ∈ inSet ↔ (i 0).val = 1 := by
  have e : inSet = (Rect.unit (s := S2x1x512) ![1, 0, 0] S1x1x512.size inb_S2x1x512_S1x1x512_1_0_0).set :=
    (Memref.set_view_squeeze _ _).trans (View.set_slice_whole _ _)
  rw [e, LoadRect.mem_set]
  constructor
  · intro h
    obtain ⟨j, hj, hi⟩ := h 0
    have hj' : j < 1 := hj
    have hi' : (i 0).val = 1 + 1 * j := hi
    omega
  · intro h a
    fin_cases a
    · refine ⟨0, Nat.one_pos, ?_⟩
      show (i 0).val = 1 + 1 * 0; omega
    · refine ⟨(i 1).val, (i 1).isLt, ?_⟩
      show (i 1).val = 0 + 1 * (i 1).val; omega
    · refine ⟨(i 2).val, (i 2).isLt, ?_⟩
      show (i 2).val = 0 + 1 * (i 2).val; omega

/-- No element lies in both planes, -/
theorem planes_disjoint : Disjoint outSet inSet :=
  Finset.disjoint_left.mpr fun i h h' => by rw [mem_outSet] at h; rw [mem_inSet] at h'; omega

/-- and every element lies in one. -/
theorem planes_cover : outSet ∪ inSet = Finset.univ :=
  Finset.eq_univ_iff_forall.mpr fun i => by
    rw [Finset.mem_union, mem_outSet, mem_inSet]
    have h : (i 0).val < 2 := (i 0).isLt
    omega

/-! ## What a plane holds -/

/-- Entry `j` of a half plane, as an index of the vectors stored and loaded. -/
def entry (j : ℕ) (h : j < 256) : S1x1x256.Idx := fun a => match a with
  | ⟨0, _⟩ => ⟨0, Nat.one_pos⟩
  | ⟨1, _⟩ => ⟨0, Nat.one_pos⟩
  | ⟨2, _⟩ => ⟨j, h⟩

/-- The two halves of a plane read as one row: `a` first, `b` after it. -/
def joined (a b : S1x1x256.Idx → Elt F .f32) (j : ℕ) (h : j < 512) : Elt F .f32 :=
  if h' : j < 256 then a (entry j h') else b (entry (j - 256) (by omega))

/-- Plane `k` of `f` holds the halves `a` and `b`. -/
def HoldsRow (k : ℕ) (a b : S1x1x256.Idx → Elt F .f32) (f : S2x1x512.Idx → Elt F .f32) : Prop :=
  ∀ i : S2x1x512.Idx, (i 0).val = k → f i = joined a b (i 2).val (i 2).isLt

/-- The box of a half plane: plane `k`, from entry `o` on. -/
abbrev box0a : Rect S2x1x512 := Rect.unit (s := S2x1x512) ![0, 0, 0] S1x1x256.size inb_S2x1x512_S1x1x256_0_0_0
abbrev box0b : Rect S2x1x512 := Rect.unit (s := S2x1x512) ![0, 0, 256] S1x1x256.size inb_S2x1x512_S1x1x256_0_0_256
abbrev box1a : Rect S2x1x512 := Rect.unit (s := S2x1x512) ![1, 0, 0] S1x1x256.size inb_S2x1x512_S1x1x256_1_0_0
abbrev box1b : Rect S2x1x512 := Rect.unit (s := S2x1x512) ![1, 0, 256] S1x1x256.size inb_S2x1x512_S1x1x256_1_0_256

theorem box0a_sub : (comm.access box0a).set ⊆ outSet := fun i hi => by
  obtain ⟨x, -, rfl⟩ := Finset.mem_map.mp hi
  rw [mem_outSet]
  have h : (x 0).val < 1 := (x 0).isLt
  show 0 + 1 * (x 0).val = 0
  omega
theorem box0b_sub : (comm.access box0b).set ⊆ outSet := fun i hi => by
  obtain ⟨x, -, rfl⟩ := Finset.mem_map.mp hi
  rw [mem_outSet]
  have h : (x 0).val < 1 := (x 0).isLt
  show 0 + 1 * (x 0).val = 0
  omega
theorem box1a_sub : (comm.access box1a).set ⊆ inSet := fun i hi => by
  obtain ⟨x, -, rfl⟩ := Finset.mem_map.mp hi
  rw [mem_inSet]
  have h : (x 0).val < 1 := (x 0).isLt
  show 1 + 1 * (x 0).val = 1
  omega
theorem box1b_sub : (comm.access box1b).set ⊆ inSet := fun i hi => by
  obtain ⟨x, -, rfl⟩ := Finset.mem_map.mp hi
  rw [mem_inSet]
  have h : (x 0).val < 1 := (x 0).isLt
  show 1 + 1 * (x 0).val = 1
  omega

/-- The two stores leave plane 0 holding the two vectors stored, whatever it held. -/
theorem stored_row (a b : S1x1x256.Idx → Elt F .f32) (f : S2x1x512.Idx → Elt F .f32) :
    HoldsRow 0 a b ((comm.access box0b).write (Elt F) ((comm.access box0a).write (Elt F) f a Finset.univ) b Finset.univ) := by
  intro i hi
  have h1 : (i 1).val < 1 := (i 1).isLt
  have h2 : (i 2).val < 512 := (i 2).isLt
  unfold joined
  by_cases h : (i 2).val < 256
  · rw [dif_pos h]
    have e : i = (comm.access box0a).emb (entry (i 2).val h) := funext fun d => Fin.ext (by
      fin_cases d
      · show (i 0).val = 0 + 1 * 0; omega
      · show (i 1).val = 0 + 1 * 0; omega
      · show (i 2).val = 0 + 1 * (i 2).val; omega)
    rw [View.write_of_not_mem]
    · conv_lhs => rw [e]
      exact View.write_emb_of_mem _ _ (Finset.mem_univ _)
    · rw [View.setOn_univ]
      intro hm
      obtain ⟨x, -, hx⟩ := Finset.mem_map.mp hm
      have hx2 : 256 + 1 * (x 2).val = (i 2).val := congrArg (fun y : S2x1x512.Idx => (y 2).val) hx
      omega
  · rw [dif_neg h]
    have e : i = (comm.access box0b).emb (entry ((i 2).val - 256) (by omega)) := funext fun d => Fin.ext (by
      fin_cases d
      · show (i 0).val = 0 + 1 * 0; omega
      · show (i 1).val = 0 + 1 * 0; omega
      · show (i 2).val = 256 + 1 * ((i 2).val - 256); omega)
    conv_lhs => rw [e]
    exact View.write_emb_of_mem _ _ (Finset.mem_univ _)

/-- A copy of plane 0 of `fs` onto plane 1 of `fd` carries the row over. -/
theorem copied_row {a b : S1x1x256.Idx → Elt F .f32} {fs : S2x1x512.Idx → Elt F .f32} (h : HoldsRow 0 a b fs)
    (fd : S2x1x512.Idx → Elt F .f32) :
    HoldsRow 1 a b (incoming.view.write (Elt F) fd (outgoing.view.read (Elt F) fs) Finset.univ) := by
  intro i hi
  obtain ⟨x, -, rfl⟩ := Finset.mem_map.mp ((mem_inSet i).mpr hi)
  refine (View.write_emb_of_mem _ _ (Finset.mem_univ _)).trans ?_
  exact h (outgoing.view.emb x) ((mem_outSet _).mp (Finset.mem_map_of_mem _ (Finset.mem_univ x)))

/-- The two loads from a plane 1 that holds a row are its halves. -/
theorem loaded_fst {a b : S1x1x256.Idx → Elt F .f32} {f : S2x1x512.Idx → Elt F .f32} (h : HoldsRow 1 a b f) :
    comm.view.readAt (Elt F) box1a.toLoadRect f = a := by
  funext x
  have h0 : (x 0).val < 1 := (x 0).isLt
  have h1 : (x 1).val < 1 := (x 1).isLt
  have h2 : (x 2).val < 256 := (x 2).isLt
  have hr := h ((comm.access box1a).emb x) (by show 1 + 1 * (x 0).val = 1; omega)
  refine hr.trans ?_
  unfold joined
  have e : (((comm.access box1a).emb x) 2).val = (x 2).val := by show 0 + 1 * (x 2).val = (x 2).val; omega
  rw [dif_pos (by rw [e]; exact h2)]
  refine congrArg a (funext fun d => Fin.ext ?_)
  fin_cases d
  · show 0 = (x 0).val; omega
  · show 0 = (x 1).val; omega
  · exact e
theorem loaded_snd {a b : S1x1x256.Idx → Elt F .f32} {f : S2x1x512.Idx → Elt F .f32} (h : HoldsRow 1 a b f) :
    comm.view.readAt (Elt F) box1b.toLoadRect f = b := by
  funext x
  have h0 : (x 0).val < 1 := (x 0).isLt
  have h1 : (x 1).val < 1 := (x 1).isLt
  have h2 : (x 2).val < 256 := (x 2).isLt
  have hr := h ((comm.access box1b).emb x) (by show 1 + 1 * (x 0).val = 1; omega)
  refine hr.trans ?_
  unfold joined
  have e : (((comm.access box1b).emb x) 2).val = 256 + (x 2).val := by show 256 + 1 * (x 2).val = 256 + (x 2).val; omega
  rw [dif_neg (by rw [e]; omega)]
  refine congrArg b (funext fun d => Fin.ext ?_)
  fin_cases d
  · show 0 = (x 0).val; omega
  · show 0 = (x 1).val; omega
  · show (((comm.access box1b).emb x) 2).val - 256 = (x 2).val; rw [e]; omega

end Cert.Exchange

end
-- ==== Proof.Protocol.lean ====
/- The protocol of the exchange. Device `c` works with one other device, `peer c`: the one whose second mesh coordinate
   is the other one. Each device has three semaphores in play:

   * `ready`, the barrier semaphore: `peer c` raises it by one when its kernel has begun. With that unit comes the
     peer's incoming plane, into which `c` may now write;
   * `sent`: raised by the credit of `c`'s own transfer, once the outgoing plane has been read. With it comes the
     outgoing plane back;
   * `landed`: raised by the peer's transfer, once it has arrived. With it comes the incoming plane, holding the peer's row.

   Each is raised once and waited for once, so each has one round with one duty. The file states this as a schedule of
   the rounds library, then what the devices owe at the launch, the order of the waits, and the data of the pipeline. -/
module

public import proofs.«01_k».proof.Proof.Slots
public import proofs.«01_k».proof.Proof.Gen.KernelIdeal.Points
public import Idealize.ShloMosaic.Lib.Pipeline.Kit

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Ghost state of the exchange, and that of the pipeline beside it. -/
abbrev UX : Type := URounds (GSem nD τ sig) Unit
abbrev UU : Type := UR sig nD τ × UX

local notation "𝕄" => MT nD τ sig Unit (Elt F) ℕ UU ℕ

abbrev EP : Emb (UR sig nD τ) (MT nD τ sig Unit (Elt F) ℕ UU ℕ) := embL
abbrev EX : Emb UX (MT nD τ sig Unit (Elt F) ℕ UU ℕ) := embR

variable (m : (ℓ : Loc nD τ sig) → Buf (Elt F) ℓ) (ρ : Dev nD → PrngReg)

/-- The state at the launch: any contents, every semaphore at zero. -/
def atLaunch : MemSt nD τ sig (Elt F) := ⟨m, fun _ => 0, ρ⟩

/-! ## The other device -/

set_option backward.proofsInPublic true in
/-- The device whose second mesh coordinate differs, the other two alike: bit 1 of the number turned over. -/
def peer (c : Dev nD) : Dev nD :=
  ⟨4 * (c.val / 4) + 2 * (1 - c.val / 2 % 2) + c.val % 2, by have h : c.val < 8 := c.isLt; show _ < 8; omega⟩

theorem peer_peer (c : Dev nD) : peer (peer c) = c := by revert c; decide

/-- The signal and the transfer both address the peer. -/
theorem signal_addr (c : Dev nD) : (⟨k0_dev1 c, k0_dev1_lt c⟩ : Dev nD) = peer c :=
  Fin.ext ((k0_dev1_eq c).trans (by revert c; decide))
theorem transfer_addr (c : Dev nD) : (⟨k0_dev2 c, k0_dev2_lt c⟩ : Dev nD) = peer c :=
  Fin.ext ((k0_dev2_eq c).trans (by revert c; decide))

/-! ## The three semaphores -/

/-- What a semaphore is for. -/
inductive Role
  | ready
  | sent
  | landed
  deriving DecidableEq

instance : Fintype Role := ⟨{.ready, .sent, .landed}, fun r => by cases r <;> decide⟩

abbrev barS : Sem sig := (SemArray.scalar (sig.barrier 0 rfl) : Sems sig S_).sem

/-- The semaphore of a role. -/
abbrev semOf : Role → SemLoc sig
  | .ready => .reg barS
  | .sent => .dma cc0_scratch1.sem
  | .landed => .dma cc0_scratch2.sem

/-- The role of a semaphore, if it has one. -/
def roleOf (s : SemLoc sig) : Option Role :=
  if s = semOf .ready then some .ready else if s = semOf .sent then some .sent else if s = semOf .landed then some .landed else none

theorem roleOf_semOf (r : Role) : roleOf (semOf r) = some r := by revert r; decide

theorem semOf_injective : Function.Injective semOf := fun r r' h =>
  Option.some.inj ((roleOf_semOf r).symm.trans ((congrArg roleOf h).trans (roleOf_semOf r')))

/-- Device `c`'s semaphore of a role. -/
abbrev cell (c : Dev nD) (r : Role) : GSem nD τ sig := ((c : Thread nD τ), semOf r)

theorem cell_eq_iff {a b : Dev nD} {r r' : Role} : cell a r = cell b r' ↔ a = b ∧ r = r' :=
  ⟨fun h => ⟨congrArg (fun g : GSem nD τ sig => g.1.1) h, semOf_injective (congrArg Prod.snd h)⟩, fun h => by rw [h.1, h.2]⟩

/-- The credit of one transferred plane. -/
abbrev credit : ℕ := (incoming : Memref sig .tc .vmem S1x512 .f32).view.dmaCredit
theorem credit_pos : 0 < credit := View.dmaCredit_pos _ (by decide)

/-- How far a role's semaphore is raised. -/
abbrev units : Role → ℕ
  | .ready => 1
  | .sent => credit
  | .landed => credit
theorem units_pos (r : Role) : 0 < units r := by
  cases r
  · exact Nat.one_pos
  · exact credit_pos
  · exact credit_pos

/-! ## Contents -/

/-- The device's three argument blocks as its kernel finds them staged. -/
def xIn (c : Dev nD) : (cc0_stg0_0 : Ref sig .tc).ty.Contents (Elt F) :=
  (win0_0.blk (0 : Fin 1)).view.read (Elt F) ((atLaunch m ρ).mem ((c : Thread nD τ).loc main_arg0))
def wIn (c : Dev nD) : (cc0_stg1_0 : Ref sig .tc).ty.Contents (Elt F) :=
  (win0_1.blk (0 : Fin 1)).view.read (Elt F) ((atLaunch m ρ).mem ((c : Thread nD τ).loc main_arg1))
def labIn (c : Dev nD) : (cc0_stg2_0 : Ref sig .tc).ty.Contents (Elt F) :=
  (win0_2.blk (0 : Fin 1)).view.read (Elt F) ((atLaunch m ρ).mem ((c : Thread nD τ).loc main_arg2))

/-- The device's own sums of exponentials, -/
def sums (c : Dev nD) : FVec F S256 .f32 := k0_pay3 (xIn m ρ c) (wIn m ρ c)
/-- and its part of the label logits. -/
def picks (c : Dev nD) : FVec F S256 .f32 := k0_pay4 c (xIn m ρ c) (wIn m ρ c) (labIn m ρ c)

/-- The two vectors it sends. -/
abbrev rowFst (c : Dev nD) : S1x1x256.Idx → Elt F .f32 := k0_pay5 (sums m ρ c)
abbrev rowSnd (c : Dev nD) : S1x1x256.Idx → Elt F .f32 := k0_pay6 (picks m ρ c)

/-- The result: from its own two vectors and the peer's. -/
def result (c : Dev nD) : (cc0_stg3_0 : Ref sig .tc).ty.Contents (Elt F) :=
  k0_pay1 (sums m ρ c) (picks m ρ c) (rowFst m ρ (peer c)) (rowSnd m ρ (peer c))

/-- The planes of device `c`'s communication buffer, held at the contents `f`. -/
def outPlane (c : Dev nD) (f : Buf (Elt F) ((c : Thread nD τ).loc cc0_scratch0)) : sProp 𝕄 :=
  outgoing.view.loc (c : Thread nD τ) ↦[outgoing.view.set]{fullShare} f
def inPlane (c : Dev nD) (f : Buf (Elt F) ((c : Thread nD τ).loc cc0_scratch0)) : sProp 𝕄 :=
  incoming.view.loc (c : Thread nD τ) ↦[incoming.view.set]{fullShare} f

omit [FloatOps F] in
instance outPlane_storable (c : Dev nD) (f) : BI.Storable (upEmb : UEmb _ 𝕄) (outPlane (F := F) c f) := by unfold outPlane; infer_instance
omit [FloatOps F] in
instance inPlane_storable (c : Dev nD) (f) : BI.Storable (upEmb : UEmb _ 𝕄) (inPlane (F := F) c f) := by unfold inPlane; infer_instance

omit [FloatOps F] in
/-- The buffer whole is its two planes. -/
theorem planes_split (c : Dev nD) (f : Buf (Elt F) ((c : Thread nD τ).loc cc0_scratch0)) :
    (((c : Thread nD τ).loc cc0_scratch0) ↦{fullShare} f : sProp 𝕄) ⊢ iprop(outPlane c f ∗ inPlane c f) := by
  unfold outPlane inPlane
  have h := (pointsTo_union (Ix := Unit) (Name := ℕ) (U := UU) (Lvl := ℕ) (ℓ := (c : Thread nD τ).loc cc0_scratch0)
    (q := fullShare) (f := f) planes_disjoint).1
  rw [planes_cover] at h
  exact h

omit [FloatOps F] in
/-- The two planes, whatever they hold, are the buffer whole. -/
theorem planes_join (c : Dev nD) (f g : Buf (Elt F) ((c : Thread nD τ).loc cc0_scratch0)) :
    iprop(outPlane c f ∗ inPlane c g) ⊢ (∃ h : Buf (Elt F) ((c : Thread nD τ).loc cc0_scratch0), ((c : Thread nD τ).loc cc0_scratch0) ↦{fullShare} h : sProp 𝕄) := by
  unfold outPlane inPlane
  have h := pointsTo_join (Ix := Unit) (Name := ℕ) (U := UU) (Lvl := ℕ) (ℓ := (c : Thread nD τ).loc cc0_scratch0)
    (q := fullShare) (f := f) (g := g) planes_disjoint
  rw [planes_cover] at h
  refine h.trans ?_
  iintro H
  iexists _
  iexact H

/-! ## The schedule -/

/-- What comes with the raise of a role's semaphore on device `c`. -/
def brings : Role → Dev nD → sProp 𝕄
  | .ready, c => iprop(∃ f, inPlane (peer c) f)
  | .sent, c => iprop(∃ f, outPlane c f)
  | .landed, c => iprop(∃ f, ⌜HoldsRow 1 (rowFst m ρ (peer c)) (rowSnd m ρ (peer c)) f⌝ ∗ inPlane c f)

theorem brings_ready (c : Dev nD) : brings (F := F) m ρ .ready c = iprop(∃ f, inPlane (peer c) f) := rfl
theorem brings_sent (c : Dev nD) : brings (F := F) m ρ .sent c = iprop(∃ f, outPlane c f) := rfl
theorem brings_landed (c : Dev nD) : brings (F := F) m ρ .landed c
    = iprop(∃ f, ⌜HoldsRow 1 (rowFst m ρ (peer c)) (rowSnd m ρ (peer c)) f⌝ ∗ inPlane c f) := rfl

instance brings_storable (r : Role) (c : Dev nD) : BI.Storable (upEmb : UEmb _ 𝕄) (brings (F := F) m ρ r c) := by
  cases r <;> unfold brings <;> infer_instance

/-- One round; a semaphore with a role has one duty in it. -/
def plan : Rounds.Schedule (GSem nD τ sig) Unit 𝕄 where
  duties g n := if n = 0 ∧ g.1.2 = .tc ∧ (roleOf g.2).isSome then {()} else ∅
  unitless _ := False
  amount g _ _ := ((roleOf g.2).map units).getD 1
  payload g _ _ := ((roleOf g.2).map fun r => brings m ρ r g.1.1).getD iprop(emp)
  amount_pos g _ _ _ := by
    cases roleOf g.2 with
    | none => exact Nat.one_pos
    | some r => exact units_pos r

instance plan_storable (g : GSem nD τ sig) (n : ℕ) (d : Unit) : BI.Storable (upEmb : UEmb _ 𝕄) ((plan (F := F) m ρ).payload g n d) := by
  show BI.Storable upEmb (((roleOf g.2).map fun r => brings m ρ r g.1.1).getD iprop(emp))
  cases roleOf g.2 with
  | none => exact (inferInstance : BI.Storable upEmb (iprop(emp) : sProp 𝕄))
  | some r => exact brings_storable m ρ r g.1.1

theorem plan_duties (c : Dev nD) (r : Role) : (plan (F := F) m ρ).duties (cell c r) 0 = {()} := by
  dsimp only [plan]; exact if_pos ⟨rfl, rfl, by rw [roleOf_semOf]; rfl⟩
theorem plan_due (c : Dev nD) (r : Role) : () ∈ (plan (F := F) m ρ).duties (cell c r) 0 := by
  rw [plan_duties]; exact Finset.mem_singleton_self _
theorem plan_over (g : GSem nD τ sig) : ∀ n, 1 ≤ n → (plan (F := F) m ρ).duties g n = ∅ := fun n hn => by
  dsimp only [plan]; exact if_neg fun h => by omega
theorem plan_amount (c : Dev nD) (r : Role) : (plan (F := F) m ρ).amount (cell c r) 0 () = units r := by
  dsimp only [plan]; rw [roleOf_semOf]; rfl
theorem plan_payload (c : Dev nD) (r : Role) : (plan (F := F) m ρ).payload (cell c r) 0 () = brings m ρ r c := by
  dsimp only [plan]; rw [roleOf_semOf]; rfl
theorem plan_expect (c : Dev nD) (r : Role) : (plan (F := F) m ρ).expect (cell c r) 0 = units r := by
  unfold Schedule.expect Schedule.amountOf; rw [plan_duties, Finset.sum_singleton, plan_amount]
/-- All that comes with a role's semaphore in its round. -/
theorem plan_all (c : Dev nD) (r : Role) :
    bigSep ((plan (F := F) m ρ).duties (cell c r) 0 \ ∅) (fun u => (plan (F := F) m ρ).payload (cell c r) 0 u) = brings m ρ r c := by
  rw [Finset.sdiff_empty, plan_duties, bigSep_singleton, plan_payload]

/-! ## Debts and levels -/

/-- At the launch a device owes its peer the transfer's credit and the ready unit. -/
def debt (c : Dev nD) : CellTallies nD τ sig Unit :=
  tallyAt (cell (peer c) .landed) () credit + tallyAt (cell (peer c) .ready) () 1

/-- The cells that may be owed: those of the TensorCores. -/
def owable (g : GSem nD τ sig) : Finset Unit := if g.1.2 = .tc then {()} else ∅
theorem owable_tc (c : Dev nD) (s : SemLoc sig) : owable ((c : Thread nD τ), s) = {()} := if_pos rfl
theorem owable_other (g : GSem nD τ sig) (h : g.1.2 ≠ .tc) : owable g = ∅ := if_neg h

/-- A device waits for `ready` owing `landed` only, so `ready` stands below `landed`; all else stands below both. -/
def level (g : GSem nD τ sig) (_ : Unit) : ℕ := match roleOf g.2 with
  | some .ready => 1
  | some .landed => 2
  | _ => 0
theorem level_cell (c : Dev nD) (r : Role) : level (cell c r) () = match r with | .ready => 1 | .landed => 2 | .sent => 0 := by
  unfold level; rw [roleOf_semOf]; cases r <;> rfl

theorem tally_pos {g g' : GSem nD τ sig} {u : Unit} {n : ℕ} (h : 0 < (tallyAt g' () n : CellTallies nD τ sig Unit) g u) : g = g' := by
  rw [tallyAt_apply] at h
  by_contra hne
  rw [if_neg fun h' => hne h'.1] at h
  exact Nat.lt_irrefl 0 h

theorem debt_pos {c : Dev nD} {g : GSem nD τ sig} {u : Unit} (h : 0 < debt c g u) :
    ∃ r, g = cell (peer c) r ∧ 1 ≤ level g () := by
  unfold debt at h
  rw [Pi.add_apply, Finsupp.add_apply] at h
  rcases Nat.eq_zero_or_pos ((tallyAt (cell (peer c) .landed) () credit : CellTallies nD τ sig Unit) g u) with h0 | h0
  · rw [h0, Nat.zero_add] at h
    have e := tally_pos h
    exact ⟨.ready, e, by rw [e, level_cell]⟩
  · have e := tally_pos h0
    exact ⟨.landed, e, by rw [e, level_cell]; decide⟩

/-- A staging wait is below everything owed. -/
theorem may_stage (c : Dev nD) (q : DmaSem sig) (hq : ∀ u, level ((c : Thread nD τ), .dma q) u = 0) (O : CellTallies nD τ sig Unit)
    (hO : O = debt c ∨ O = 0) : (levAts owable level : sProp 𝕄) ⊢ MayWait (c : Thread nD τ) (.dma q) () O := by
  rcases hO with rfl | rfl
  · refine MayOwe.of_cut (L := owable) (lev := level) 0 (fun p hp => ?_) (fun g u hg => ?_) (fun p hp => ?_) (fun g u hg => ?_)
    · rw [Finset.mem_singleton.mp hp, owable_tc]; exact Finset.mem_singleton_self _
    · obtain ⟨r, rfl, -⟩ := debt_pos hg; exact Finset.mem_singleton_self _
    · rw [Finset.mem_singleton.mp hp]; exact le_of_eq (hq _)
    · obtain ⟨r, -, hl⟩ := debt_pos hg; exact hl
  · rw [MayWait_zero]; iintro -; iempintro

/-- The wait for `ready` is below the one debt left then. -/
theorem may_ready (c : Dev nD) : (levAts owable level : sProp 𝕄) ⊢ MayWait (c : Thread nD τ) (semOf .ready) () (tallyAt (cell (peer c) .landed) () credit) := by
  refine MayOwe.of_cut (L := owable) (lev := level) 1 (fun p hp => ?_) (fun g u hg => ?_) (fun p hp => ?_) (fun g u hg => ?_)
  · rw [Finset.mem_singleton.mp hp, owable_tc]; exact Finset.mem_singleton_self _
  · rw [tally_pos hg]; exact Finset.mem_singleton_self _
  · rw [Finset.mem_singleton.mp hp]; exact le_of_eq (level_cell c .ready)
  · rw [tally_pos hg]; exact (level_cell (peer c) .landed).symm ▸ (by decide)

/-! ## What a device holds before and after its kernel -/

/-- The invariants it opens: its own three cells', and the two of its peer that it raises. `K` names them. -/
def shared (K : Dev nD × Role → ℕ) (c : Dev nD) : sProp 𝕄 :=
  iprop((cellInv EX (plan m ρ) (K (c, .ready)) (cell c .ready) ∗ cellInv EX (plan m ρ) (K (c, .sent)) (cell c .sent)
      ∗ cellInv EX (plan m ρ) (K (c, .landed)) (cell c .landed))
    ∗ cellInv EX (plan m ρ) (K (peer c, .ready)) (cell (peer c) .ready) ∗ cellInv EX (plan m ρ) (K (peer c, .landed)) (cell (peer c) .landed)
    ∗ reached EX (cell (peer c) .ready) 0 ∗ reached EX (cell (peer c) .landed) 0 ∗ reached EX (cell c .sent) 0 ∗ reached EX (cell c .landed) 0)

instance shared_persistent (K : Dev nD × Role → ℕ) (c : Dev nD) : BI.Persistent (shared m ρ K c) := by unfold shared; infer_instance

/-- Its places in its own three rounds, -/
def places (c : Dev nD) : sProp 𝕄 :=
  iprop(atPos EX (cell c .ready) 0 ∅ 0 ∗ atPos EX (cell c .sent) 0 ∅ 0 ∗ atPos EX (cell c .landed) 0 ∅ 0)
/-- and the duties it has to do: two on its peer's cells, one on its own. -/
def duties (c : Dev nD) : sProp 𝕄 :=
  iprop(dutyTok EX (cell (peer c) .ready) 0 () ∗ dutyTok EX (cell (peer c) .landed) 0 () ∗ dutyTok EX (cell c .sent) 0 ())

def dealt (c : Dev nD) : sProp 𝕄 := iprop(∃ K, shared m ρ K c ∗ places c ∗ duties c)

/-- With the credit it will be paid and the levels. -/
def start (c : Dev nD) : sProp 𝕄 :=
  iprop(dealt m ρ c ∗ (cred (tallyAt (cell c .ready) () 1) ∗ cred (tallyAt (cell c .landed) () credit)) ∗ levAts owable level)

def before (c : Dev nD) : sProp 𝕄 := iprop(start m ρ c ∗ ∃ f, ((c : Thread nD τ).loc cc0_scratch0) ↦{fullShare} f)
def afterwards (c : Dev nD) : sProp 𝕄 :=
  iprop((∃ f : Buf (Elt F) ((c : Thread nD τ).loc cc0_scratch0), ((c : Thread nD τ).loc cc0_scratch0) ↦{fullShare} f)
    ∗ semVal (cell c .ready) 0 ∗ semVal (cell c .sent) 0 ∗ semVal (cell c .landed) 0)

/-- The pipeline's data: the arrays as launched; after the one point the arguments' staging buffers as fetched, the result's at `result`. -/
def dats (_ : Fin 1) (c : Dev nD) : Dat τ (Elt F) Unit ℕ UU ℕ cfg0 c where
  A w := (atLaunch m ρ).mem ((cfg0.win w).arr.view.loc (c : Thread nD τ))
  after w _ := match w with
    | ⟨0, _⟩ => xIn m ρ c
    | ⟨1, _⟩ => wIn m ρ c
    | ⟨2, _⟩ => labIn m ρ c
    | ⟨3, _⟩ => result m ρ c
  Φ t := match t with
    | ⟨0, _⟩ => before m ρ c
    | ⟨_ + 1, _⟩ => afterwards c
  q _ := fullShare
  owed t := match t with
    | ⟨0, _⟩ => debt c
    | ⟨_ + 1, _⟩ => 0

end Cert.Exchange

end
-- ==== Proof.Body.lean ====
/- The run of the kernel on one device: from what it holds before to what it holds afterwards. First one lemma for each
   kind of step that touches the protocol — the signal, the transfer, a wait —, then the kernel through, then the same as
   the pipeline asks for it. -/
module

public import proofs.«01_k».proof.Proof.Protocol

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

section Steps

variable {κ κ' : ℕ} {W : Waits sig Unit}

/-- The signal: the device gives its incoming plane to its peer, and then owes the transfer only. -/
theorem step_signal (c n : Dev nD) (hn : n = peer c)
    {α : Type} {Q : α → sProp 𝕄} {k : PUnit → Prog (TpuEff nD τ sig (Elt F) Λ₀ .tc) α} :
    iprop(cellInv EX (plan m ρ) κ (cell (peer c) .ready) ∗ owes (c : Thread nD τ) (debt c) W
        ∗ dutyTok EX (cell (peer c) .ready) 0 () ∗ (∃ f, inPlane c f) ∗ reached EX (cell (peer c) .ready) 0)
      ⊢ iprop((owes (c : Thread nD τ) (tallyAt (cell (peer c) .landed) () credit) W
            -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS 1) k) Q) := by
  subst hn
  have e : iprop(∃ f, inPlane (F := F) c f) ⊢ (plan (F := F) m ρ).payload (cell (peer c) .ready) 0 () := by
    rw [plan_payload, brings_ready, peer_peer]
  exact (sep_mono_right (sep_mono_right (sep_mono_right (sep_mono_left e)))).trans
    (Rounds.wp_signal 𝒱₀ EX (plan m ρ) (c : Thread nD τ) none (plan_due m ρ (peer c) .ready) (plan_amount m ρ (peer c) .ready) () _ rfl)

/-- The transfer: both planes go, the outgoing one to come back with `sent`, the peer's incoming one with the peer's `landed`. -/
theorem step_send (c n : Dev nD) (hn : n = peer c)
    {α : Type} {Q : α → sProp 𝕄} {k : PUnit → Prog (TpuEff nD τ sig (Elt F) Λ₀ .tc) α}
    {hsc : (incoming : Memref sig (Dev.tc n : Thread nD τ).2.kind .vmem S1x512 .f32).view.ref.isScScratch = false}
    {hsrc : outgoing.view.WordExact} {hdst : (incoming : Memref sig .tc .vmem S1x512 .f32).view.WordExact}
    {hsem : DmaTarget.Typed .vmem (semOf .landed) (.remote (Dev.tc n : Thread nD τ) incoming (semOf .sent) hsc)}
    (fs : Buf (Elt F) ((c : Thread nD τ).loc cc0_scratch0)) (hfs : HoldsRow 0 (rowFst m ρ c) (rowSnd m ρ c) fs)
    (fd : Buf (Elt F) ((peer c : Thread nD τ).loc cc0_scratch0)) :
    iprop(cellInv EX (plan m ρ) κ (cell c .sent) ∗ cellInv EX (plan m ρ) κ' (cell (peer c) .landed)
        ∗ outPlane c fs ∗ inPlane (peer c) fd
        ∗ owes (c : Thread nD τ) (tallyAt (cell (peer c) .landed) () credit) W
        ∗ dutyTok EX (cell c .sent) 0 () ∗ reached EX (cell c .sent) 0
        ∗ dutyTok EX (cell (peer c) .landed) 0 () ∗ reached EX (cell (peer c) .landed) 0)
      ⊢ iprop(((cred (tallyAt (cell c .sent) () credit) ∗ owes (c : Thread nD τ) 0 W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma outgoing (.remote (Dev.tc n : Thread nD τ) incoming (semOf .sent) hsc) (semOf .landed) hsrc hdst hsem) k) Q) := by
  subst hn
  unfold outPlane inPlane
  refine Rounds.wp_send_pointsTo 𝒱₀ EX (plan m ρ) (c : Thread nD τ) none (plan_due m ρ c .sent) (plan_due m ρ (peer c) .landed)
    () () credit rfl (plan_amount m ρ c .sent) (plan_amount m ρ (peer c) .landed) 0 (by rw [zero_add]) ?_ ?_
  · rw [plan_payload, brings_sent]; unfold outPlane
    iintro H; iexists fs; iexact H
  · rw [plan_payload, brings_landed, peer_peer]; unfold inPlane
    iintro H; iexists _
    isplitr
    · ipureintro; exact copied_row hfs fd
    · iexact H

/-- A wait on one of its own semaphores: what the raise brings is the device's, and the counter, at zero for good. -/
theorem step_wait (c : Dev nD) (r : Role)
    {α : Type} {Q : α → sProp 𝕄} {k : PUnit → Prog (TpuEff nD τ sig (Elt F) Λ₀ .tc) α}
    {w : TpuEff nD τ sig (Elt F) Λ₀ .tc PUnit}
    (hw : ∀ P : PUnit → sProp 𝕄, wpE (defs₀ (F := F)) 𝒱₀ (c : Thread nD τ) none Set.univ w P
      = waitSpec (c : Thread nD τ) Set.univ (semOf r) (units r) P) {O : CellTallies nD τ sig Unit} :
    iprop(cellInv EX (plan m ρ) κ (cell c r) ∗ cred (tallyAt (cell c r) () (units r)) ∗ owes (c : Thread nD τ) O W
        ∗ MayWait (c : Thread nD τ) (semOf r) () O ∗ atPos EX (cell c r) 0 ∅ 0)
      ⊢ iprop(((owes (c : Thread nD τ) O (insert (semOf r, ()) W) ∗ brings m ρ r c ∗ semVal (cell c r) 0)
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  iintro ⟨#HI, Hc, Ho, Hm, Ha⟩ Hk
  iapply (Rounds.wp_wait_rest_token 𝒱₀ EX (plan m ρ) (c : Thread nD τ) none (κ := κ) hw (Set.mem_univ _) () (O := O) (W := W)
      (R := 0) (m := 0) (T := ∅) (by rw [Nat.zero_add, plan_expect])) $$ [Hc Ho Hm Ha]
  · isplitr; · iexact HI
    isplitl [Hc]; · iexact Hc
    isplitl [Ho]; · iexact Ho
    isplitl [Hm] <;> iassumption
  iintro ⟨Ho, Ha, -, Hp⟩
  ihave Hb := (Entails.of_eq (plan_all m ρ c r)) $$ Hp
  imod (Rounds.cell_close EX (plan m ρ) (Set.mem_univ κ) (fun h => h) (R := 0 + 1) (plan_over m ρ (cell c r))) $$ [Ha] with Hz
  · isplitr; · iexact HI
    iexact Ha
  iapply Hk
  isplitl [Ho]; · iexact Ho
  isplitl [Hb] <;> iassumption

end Steps

/-! ## Whole-buffer accesses -/

abbrev all256x512 : Rect S256x512 := Rect.unit (s := S256x512) ![0, 0] S256x512.size inb_S256x512_S256x512_0_0
abbrev all512x4096 : Rect S512x4096 := Rect.unit (s := S512x4096) ![0, 0] S512x4096.size inb_S512x4096_S512x4096_0_0
abbrev all256 : Rect S256 := Rect.unit (s := S256) ![0] S256.size inb_S256_S256_0

omit [FloatOps F] in
theorem zeros2 : (![0, 0] : Fin 2 → Nat) = fun _ => 0 := funext fun a => by fin_cases a <;> rfl
omit [FloatOps F] in
theorem zeros1 : (![0] : Fin 1 → Nat) = fun _ => 0 := funext fun a => by fin_cases a; rfl

omit [FloatOps F] in
theorem read_x (f : (cc0_stg0_0 : Ref sig .tc).ty.Contents (Elt F)) :
    (Memref.whole cc0_stg0_0 : Memref sig .tc .vmem S256x512 .bf16).view.readAt (Elt F) all256x512.toLoadRect f = f :=
  Memref.readAt_unit_zero (Elt F) cc0_stg0_0 zeros2 _ f
omit [FloatOps F] in
theorem read_w (f : (cc0_stg1_0 : Ref sig .tc).ty.Contents (Elt F)) :
    (Memref.whole cc0_stg1_0 : Memref sig .tc .vmem S512x4096 .bf16).view.readAt (Elt F) all512x4096.toLoadRect f = f :=
  Memref.readAt_unit_zero (Elt F) cc0_stg1_0 zeros2 _ f
omit [FloatOps F] in
theorem read_lab (f : (cc0_stg2_0 : Ref sig .tc).ty.Contents (Elt F)) :
    (Memref.whole cc0_stg2_0 : Memref sig .tc .vmem S256 .i32).view.readAt (Elt F) all256.toLoadRect f = f :=
  Memref.readAt_unit_zero (Elt F) cc0_stg2_0 zeros1 _ f
omit [FloatOps F] in
theorem write_res (f w : (cc0_stg3_0 : Ref sig .tc).ty.Contents (Elt F)) :
    ((Memref.whole cc0_stg3_0 : Memref sig .tc .vmem S256 .f32).access all256 : View sig .tc _ _ _).write (Elt F) f w Finset.univ = w :=
  Memref.write_access_unit_zero_univ (Elt F) cc0_stg3_0 zeros1 _ f w

omit [FloatOps F] in
/-- A loaded or stored part of a plane lies in it, in each form the rules ask for. -/
theorem load_sub {b : Rect S2x1x512} {S : Finset S2x1x512.Idx} (h : (comm.access b).set ⊆ S) : comm.view.setOn b.toLoadRect.set ⊆ S := by
  rwa [View.set_slice] at h

/-! ## The kernel through -/

/-- A staging buffer of device `c` holding `X`. -/
abbrev staged (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def point : Fin cfg0.N := ⟨0, by decide⟩

def bodyPre (c : Dev nD) : sProp 𝕄 :=
  iprop(before m ρ c ∗ (dats m ρ 0 c).owesAt () point.castSucc
    ∗ (∃ d, staged c cc0_stg0_0 ((dats m ρ 0 c).before (0 : Fin 4) point d))
    ∗ (∃ d, staged c cc0_stg1_0 ((dats m ρ 0 c).before (1 : Fin 4) point d))
    ∗ (∃ d, staged c cc0_stg2_0 ((dats m ρ 0 c).before (2 : Fin 4) point d))
    ∗ (∃ d, staged c cc0_stg3_0 ((dats m ρ 0 c).before (3 : Fin 4) point d)))

def bodyPost (c : Dev nD) : sProp 𝕄 :=
  iprop(afterwards c ∗ (dats m ρ 0 c).owesAt () point.succ
    ∗ staged c cc0_stg0_0 (xIn m ρ c) ∗ staged c cc0_stg1_0 (wIn m ρ c) ∗ staged c cc0_stg2_0 (labIn m ρ c)
    ∗ staged c cc0_stg3_0 (result m ρ c))

set_option maxHeartbeats 1600000 in
set_option maxRecDepth 4000 in
/-- The kernel, one rule per operation in program order. -/
theorem kernel_run (c : Dev nD) :
    bodyPre m ρ c ⊢ wp frame (wpE (defs₀ (F := F)) 𝒱₀ c none) Set.univ
      (cc0_body (Memref.whole cc0_stg0_0) (Memref.isWhole_whole _) (Memref.whole cc0_stg1_0) (Memref.isWhole_whole _)
        (Memref.whole cc0_stg2_0) (Memref.isWhole_whole _) (Memref.whole cc0_stg3_0) (Memref.isWhole_whole _)
        (Memref.whole cc0_scratch0) (Memref.isWhole_whole _) cc0_scratch1 cc0_scratch2) (fun _ => bodyPost m ρ c) := by
  simp only [cc0_body_eq_skeleton]; unfold cc0_body_skel
  simp only [k0_part1_eq_skeleton, k0_part2_eq_skeleton]; unfold k0_part1_skel k0_part2_skel
  simp only [semSignalWord, semWaitWord, Prog.lift, Prog.bind_op, Prog.bind_ret, Prog.pure_eq_ret, wp_deviceId]
  unfold bodyPre before start dealt shared places duties
  iintro ⟨⟨⟨⟨%K, ⟨⟨#IR, #IS, #IL⟩, #IRp, #ILp, #RRp, #RLp, #RS, #RL⟩, ⟨AR, AS, AL⟩, TR, TL, TS⟩, ⟨CR, CL⟩, #Lev⟩, ⟨%f, Hbuf⟩⟩,
    Ho, ⟨%d0, %g0, %h0, H0⟩, ⟨%d1, %g1, %h1, H1⟩, ⟨%d2, %g2, %h2, H2⟩, ⟨%d3, %g3, %h3, H3⟩⟩
  have e0 : g0 = xIn m ρ c := by rw [h0]; unfold Dat.before; rw [if_pos (fetch0_0 point)]; rfl
  have e1 : g1 = wIn m ρ c := by rw [h1]; unfold Dat.before; rw [if_pos (fetch0_1 point)]; rfl
  have e2 : g2 = labIn m ρ c := by rw [h2]; unfold Dat.before; rw [if_pos (fetch0_2 point)]; rfl
  subst e0 e1 e2
  unfold Dat.owesAt Pipeline.owesWithin
  icases Ho with ⟨%W, %hW, HO⟩
  rw [show (dats m ρ 0 c).owed point.castSucc = debt c from rfl]
  ihave Hpl := (planes_split c f) $$ Hbuf
  icases Hpl with ⟨Hout, Hin⟩
  -- the signal
  iapply (step_signal m ρ (κ := K (peer c, .ready)) (W := W) c _ (signal_addr c)) $$ [HO TR Hin]
  · isplitr; · iexact IRp
    isplitl [HO]; · iexact HO
    isplitl [TR]; · iexact TR
    isplitl [Hin]; · iexists f; iexact Hin
    iexact RRp
  iintro HO
  -- the arguments
  iapply (wp_load 𝒱₀ (c : Thread nD τ) none Set.univ (m := Memref.whole cc0_stg0_0) (Finset.subset_univ _)) $$ H0; iintro H0
  iapply (wp_load 𝒱₀ (c : Thread nD τ) none Set.univ (m := Memref.whole cc0_stg1_0) (Finset.subset_univ _)) $$ H1; iintro H1
  iapply (wp_load 𝒱₀ (c : Thread nD τ) none Set.univ (m := Memref.whole cc0_stg2_0) (Finset.subset_univ _)) $$ H2; iintro H2
  rw [read_x, read_w, read_lab]
  simp only [Prog.bind_op, Prog.bind_ret]
  -- the outgoing plane
  unfold outPlane
  iapply (wp_load 𝒱₀ (c : Thread nD τ) none Set.univ (m := comm) (load_sub box0a_sub)) $$ Hout; iintro Hout
  iapply (wp_store 𝒱₀ (c : Thread nD τ) none Set.univ (m := comm) (r := box0a) (Mk := Finset.univ) (by rw [View.setOn_univ]; exact box0a_sub)) $$ Hout; iintro Hout
  iapply (wp_load 𝒱₀ (c : Thread nD τ) none Set.univ (m := comm) (load_sub box0b_sub)) $$ Hout; iintro Hout
  iapply (wp_store 𝒱₀ (c : Thread nD τ) none Set.univ (m := comm) (r := box0b) (Mk := Finset.univ) (by rw [View.setOn_univ]; exact box0b_sub)) $$ Hout; iintro Hout
  -- the wait for the peer
  iapply (step_wait m ρ (κ := K (c, .ready)) (W := W) c .ready (wpE_semWait_eq 𝒱₀ (c : Thread nD τ) none Set.univ)
    (O := tallyAt (cell (peer c) .landed) () credit)) $$ [CR HO AR]
  · isplitr; · iexact IR
    isplitl [CR]; · iexact CR
    isplitl [HO]; · iexact HO
    isplitr; · iapply (may_ready c); iexact Lev
    iexact AR
  unfold brings
  iintro ⟨HO, ⟨%fd, Hin⟩, ZR⟩
  -- the transfer
  iapply (step_send m ρ (κ := K (c, .sent)) (κ' := K (peer c, .landed)) (W := insert (semOf .ready, ()) W) c _ (transfer_addr c)
    _ (stored_row (rowFst m ρ c) (rowSnd m ρ c) f) fd) $$ [Hout Hin HO TS TL]
  · isplitr; · iexact IS
    isplitr; · iexact ILp
    isplitl [Hout]; · unfold outPlane; iexact Hout
    isplitl [Hin]; · iexact Hin
    isplitl [HO]; · iexact HO
    isplitl [TS]; · iexact TS
    isplitr; · iexact RS
    isplitl [TL]; · iexact TL
    iexact RLp
  iintro ⟨CS, HO⟩
  -- the peer's row arrives
  iapply (step_wait m ρ (κ := K (c, .landed)) (W := insert (semOf .ready, ()) W) c .landed
    (wpE_waitDma2_eq 𝒱₀ (c : Thread nD τ) none Set.univ) (O := 0)) $$ [CL HO AL]
  · isplitr; · iexact IL
    isplitl [CL]; · iexact CL
    isplitl [HO]; · iexact HO
    isplitr; · rw [MayWait_zero]; iempintro
    iexact AL
  unfold brings inPlane
  iintro ⟨HO, ⟨%fr, %hfr, Hin⟩, ZL⟩
  iapply (wp_load 𝒱₀ (c : Thread nD τ) none Set.univ (m := comm) (load_sub box1a_sub)) $$ Hin; iintro Hin
  iapply (wp_load 𝒱₀ (c : Thread nD τ) none Set.univ (m := comm) (load_sub box1b_sub)) $$ Hin; iintro Hin
  rw [loaded_fst hfr, loaded_snd hfr]
  -- the result
  iapply (wp_load 𝒱₀ (c : Thread nD τ) none Set.univ (m := Memref.whole cc0_stg3_0) (Finset.subset_univ _)) $$ H3; iintro H3
  iapply (wp_store 𝒱₀ (c : Thread nD τ) none Set.univ (m := Memref.whole cc0_stg3_0) (r := all256) (Mk := Finset.univ) (Finset.subset_univ _)) $$ H3; iintro H3
  rw [write_res]
  -- the own transfer is over
  iapply (step_wait m ρ (κ := K (c, .sent)) (W := insert (semOf .landed, ()) (insert (semOf .ready, ()) W)) c .sent
    (fun P => wpE_waitDma2_eq 𝒱₀ (c : Thread nD τ) none Set.univ (src := incoming) (dst := outgoing)
      (hsrc := (View.wordExact_bits rfl).reshape _ _) (hdst := (View.wordExact_bits rfl).reshape _ _) P) (O := 0)) $$ [CS HO AS]
  · isplitr; · iexact IS
    isplitl [CS]; · iexact CS
    isplitl [HO]; · iexact HO
    isplitr; · rw [MayWait_zero]; iempintro
    iexact AS
  unfold brings
  iintro ⟨HO, ⟨%fo, Hout⟩, ZS⟩
  rw [wp_ret]; imodintro
  unfold bodyPost afterwards Dat.owesAt Pipeline.owesWithin
  rw [show (dats m ρ 0 c).owed point.succ = 0 from rfl]
  isplitl [Hout Hin ZR ZS ZL]
  · isplitl [Hout Hin]
    · iapply (planes_join c fo fr)
      unfold inPlane
      isplitl [Hout] <;> iassumption
    isplitl [ZR]; · iexact ZR
    isplitl [ZS] <;> iassumption
  isplitl [HO]
  · iexists (insert (semOf .sent, ()) (insert (semOf .landed, ()) (insert (semOf .ready, ()) W)))
    isplitr; · ipureintro; exact fun _ _ => Or.inl trivial
    iexact HO
  isplitl [H0]; · iexists _; isplitr; · (ipureintro; rfl)
                  iexact H0
  isplitl [H1]; · iexists _; isplitr; · (ipureintro; rfl)
                  iexact H1
  isplitl [H2]; · iexists _; isplitr; · (ipureintro; rfl)
                  iexact H2
  iexists _; isplitr; · (ipureintro; rfl)
  iexact H3

omit [FloatOps F] in
theorem owns_whole (c : Dev nD) (b : Ref sig .tc) (X : b.ty.Contents (Elt F)) :
    (owns (Ix := Unit) (Name := ℕ) (U := UU) (Lvl := ℕ) (c : Thread nD τ) (Memref.whole b) fullShare X : sProp 𝕄) = staged c b X := by
  unfold owns; simp only [Memref.view_whole, View.read_whole, View.set_whole]

set_option maxRecDepth 4000 in
/-- The same as the pipeline's obligation. -/
theorem body_obligation (c : Dev nD) : BodyObligation (dats (F := F) m ρ 0 c) (defs₀ (F := F)) 𝒱₀ () Set.univ := fun t => by
  rw [show t = point from fin_N0 t]
  rw [bigSep_W0, bigSep_W0]
  simp only [owns_whole]
  exact kernel_run m ρ c

end Cert.Exchange

end
-- ==== Proof.Launch.lean ====
/- The launch: the ghost state of the protocol is made and dealt to the devices, the kernels run, and what they leave
   is read: each device's result at `result`, its arguments as they were, every semaphore at zero. -/
module

public import proofs.«01_k».proof.Proof.Body
public import Idealize.ShloMosaic.Lib.Pipeline.CollectiveSegs

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The semaphores at the launch -/

/-- The two semaphores that the kernel allocates. -/
abbrev osem : Fin 2 → SemLoc sig
  | 0 => semOf .sent
  | 1 => semOf .landed

theorem osem_facts : Pipeline.OwnSemFacts cfg0.spec osem := by decide

abbrev ownZero (c : Dev nD) : sProp 𝕄 := Pipeline.ownSems0 (Ix := Unit) (Name := ℕ) (U := UU) (Lvl := ℕ) (Val := Elt F) (τ := τ) osem c

omit [FloatOps F] in
theorem ownZero_eq (c : Dev nD) : (ownZero c : sProp 𝕄) = iprop(semVal (cell c .sent) 0 ∗ semVal (cell c .landed) 0) := by
  rw [ownZero, Pipeline.ownSems0_eq_of_list c osem [0, 1] (by decide) (by decide)]; rfl

omit [FloatOps F] in
theorem barrierZero_eq (c : Dev nD) : (unscopedSems0 c : sProp 𝕄) = semVal (cell c .ready) 0 := by
  unfold unscopedSems0; rw [bigSep_eq_bigSepL_of_eq [semOf .ready] (by decide) (by decide)]; rfl

/-! ## The ghost state -/

abbrev Cell := Dev nD × Role

theorem roles (Φ : Role → sProp 𝕄) : bigSep Finset.univ Φ = iprop(Φ .ready ∗ Φ .sent ∗ Φ .landed) :=
  bigSep_univ_eq_bigSepL [Role.ready, Role.sent, Role.landed] (by decide) (by decide) Φ

def cellEmb : Cell ↪ GSem nD τ sig :=
  ⟨fun p => cell p.1 p.2, fun p q h => Prod.ext (cell_eq_iff.mp h).1 (cell_eq_iff.mp h).2⟩
def tokEmb : Cell ↪ GSem nD τ sig × ℕ × Unit :=
  ⟨fun p => (cell p.1 p.2, 0, ()), fun p q h => cellEmb.injective (congrArg Prod.fst h)⟩

/-- The ghost state at the launch: the pipeline's, and a round with its duty for each device and role. -/
def ghost0 : UU :=
  (initOf (Pipeline.cells cfgs cellOf_inj) (Pipeline.launchToks cfgs cellOf_inj),
    initOf (Finset.univ.map cellEmb) (Finset.univ.map tokEmb))

/-- What is made for one cell. -/
def fresh (p : Cell) : sProp 𝕄 :=
  iprop(roundState EX (plan m ρ) (cell p.1 p.2) 0 ∗ reached EX (cell p.1 p.2) 0 ∗ atPos EX (cell p.1 p.2) 0 ∅ 0 ∗ dutyTok EX (cell p.1 p.2) 0 ())

/-- What is left of it when the cell's invariant stands. -/
def opened (p : Cell) : sProp 𝕄 :=
  iprop((∃ κ : ℕ, cellInv EX (plan m ρ) κ (cell p.1 p.2)) ∗ reached EX (cell p.1 p.2) 0 ∗ atPos EX (cell p.1 p.2) 0 ∅ 0 ∗ dutyTok EX (cell p.1 p.2) 0 ())

def freshOn (c : Dev nD) : sProp 𝕄 := bigSep Finset.univ fun r : Role => fresh m ρ (c, r)

theorem make : BI.own (EX (initOf (Finset.univ.map cellEmb) (Finset.univ.map tokEmb))) ⊢ (|==> bigSep Finset.univ (freshOn m ρ) : sProp 𝕄) := by
  refine (Rounds.fund EX (plan m ρ) _ _).trans (BI.bupd_mono ?_)
  unfold freshOn
  rw [← bigSep_univ_prod (fun p : Cell => fresh m ρ p)]
  unfold fresh
  simp only [bigSep_map, bigSep_sep']
  exact BI.Entails.refl _

theorem open_cell (p : Cell) : iprop(semVal (cell p.1 p.2) 0 ∗ fresh m ρ p) ⊢ |={Set.univ}=> opened m ρ p := by
  unfold fresh opened
  iintro ⟨Hv, Hst, Hr, Ha, Ht⟩
  imod ((Rounds.body_intro EX (plan m ρ) (cell p.1 p.2)).trans inv_alloc) $$ [Hv Hst] with HI
  · isplitl [Hv] <;> iassumption
  imodintro
  isplitl [HI]; · iexact HI
  isplitl [Hr]; · iexact Hr
  isplitl [Ha] <;> iassumption

/-- One device's semaphores at zero beside what was made for them. -/
theorem pair_up (c : Dev nD) :
    iprop(ownZero c ∗ unscopedSems0 c ∗ freshOn m ρ c) ⊢ bigSep Finset.univ fun r : Role => iprop(semVal (cell c r) 0 ∗ fresh m ρ (c, r)) := by
  unfold freshOn
  rw [ownZero_eq, barrierZero_eq, roles, roles]
  iintro ⟨⟨HS, HL⟩, HR, FR, FS, FL⟩
  isplitl [HR FR]; · isplitl [HR] <;> iassumption
  isplitl [HS FS]; · isplitl [HS] <;> iassumption
  isplitl [HL] <;> iassumption

/-- All cells are opened. -/
theorem open_all :
    (bigSep Finset.univ fun c : Dev nD => iprop(ownZero c ∗ unscopedSems0 c ∗ freshOn m ρ c)) ⊢ |={Set.univ}=> bigSep Finset.univ (opened m ρ) := by
  refine (bigSep_mono fun c _ => pair_up m ρ c).trans ?_
  rw [← bigSep_univ_prod (fun p : Cell => iprop(semVal (cell p.1 p.2) 0 ∗ fresh m ρ p))]
  exact (bigSep_mono fun p _ => open_cell m ρ p).trans (bigSep_fupd _ _)

/-! ## Dealing -/

/-- Who does a cell's duty: the peer for `ready` and `landed`, the device itself for `sent`. Turned round, the cell whose duty
    stands at a place. -/
def across : Cell ≃ Cell where
  toFun p := match p.2 with
    | .sent => p
    | r => (peer p.1, r)
  invFun p := match p.2 with
    | .sent => p
    | r => (peer p.1, r)
  left_inv p := by obtain ⟨c, r⟩ := p; cases r <;> simp [peer_peer]
  right_inv p := by obtain ⟨c, r⟩ := p; cases r <;> simp [peer_peer]

/-- The duties of all cells are the duties that the devices do. -/
theorem duties_dealt :
    (bigSep Finset.univ fun p : Cell => (dutyTok EX (cell p.1 p.2) 0 () : sProp 𝕄)) ⊢ bigSep Finset.univ fun c : Dev nD => duties c := by
  rw [bigSep_univ_equiv across (fun p : Cell => (dutyTok EX (cell p.1 p.2) 0 () : sProp 𝕄)), bigSep_univ_prod]
  refine bigSep_mono fun c _ => ?_
  rw [roles]
  show iprop(dutyTok EX (cell (peer c) .ready) 0 () ∗ dutyTok EX (cell c .sent) 0 () ∗ dutyTok EX (cell (peer c) .landed) 0 ()) ⊢ duties c
  unfold duties
  iintro ⟨HR, HS, HL⟩
  isplitl [HR]; · iexact HR
  isplitl [HL] <;> iassumption

theorem places_dealt :
    (bigSep Finset.univ fun p : Cell => (atPos EX (cell p.1 p.2) 0 ∅ 0 : sProp 𝕄)) ⊢ bigSep Finset.univ fun c : Dev nD => places c := by
  rw [bigSep_univ_prod]
  refine bigSep_mono fun c _ => ?_
  rw [roles]
  exact BI.Entails.refl _

/-- Every invariant and every first round, for all devices to use. -/
def public_ (K : Cell → ℕ) : sProp 𝕄 :=
  iprop((bigSep Finset.univ fun p : Cell => cellInv EX (plan m ρ) (K p) (cell p.1 p.2))
    ∗ bigSep Finset.univ fun p : Cell => reached EX (cell p.1 p.2) 0)

instance public_persistent (K : Cell → ℕ) : BI.Persistent (public_ m ρ K) := by unfold public_; infer_instance

theorem public_inv (K : Cell → ℕ) (p : Cell) : public_ m ρ K ⊢ cellInv EX (plan m ρ) (K p) (cell p.1 p.2) := by
  have e : (bigSep Finset.univ fun p : Cell => (cellInv EX (plan m ρ) (K p) (cell p.1 p.2) : sProp 𝕄)) ⊢ cellInv EX (plan m ρ) (K p) (cell p.1 p.2) :=
    bigSep_elim (Finset.mem_univ p)
  unfold public_
  iintro ⟨H, -⟩
  iapply e; iexact H
theorem public_reached (K : Cell → ℕ) (p : Cell) : public_ m ρ K ⊢ reached EX (cell p.1 p.2) 0 := by
  have e : (bigSep Finset.univ fun p : Cell => (reached EX (cell p.1 p.2) 0 : sProp 𝕄)) ⊢ reached EX (cell p.1 p.2) 0 :=
    bigSep_elim (Finset.mem_univ p)
  unfold public_
  iintro ⟨-, H⟩
  iapply e; iexact H

/-- A device takes from it what it shares in. -/
theorem public_shared (K : Cell → ℕ) (c : Dev nD) : public_ m ρ K ⊢ shared m ρ K c := by
  unfold shared
  iintro #H
  isplitr
  · isplitr; · iapply (public_inv m ρ K (c, .ready)); iexact H
    isplitr; · iapply (public_inv m ρ K (c, .sent)); iexact H
    iapply (public_inv m ρ K (c, .landed)); iexact H
  isplitr; · iapply (public_inv m ρ K (peer c, .ready)); iexact H
  isplitr; · iapply (public_inv m ρ K (peer c, .landed)); iexact H
  isplitr; · iapply (public_reached m ρ K (peer c, .ready)); iexact H
  isplitr; · iapply (public_reached m ρ K (peer c, .landed)); iexact H
  isplitr; · iapply (public_reached m ρ K (c, .sent)); iexact H
  iapply (public_reached m ρ K (c, .landed)); iexact H

theorem hand_out (K : Cell → ℕ) (c : Dev nD) : iprop(public_ m ρ K ∗ places c ∗ duties c) ⊢ dealt m ρ c := by
  unfold dealt
  iintro ⟨#H, Hp, Hd⟩
  iexists K
  isplitr; · iapply (public_shared m ρ K c); iexact H
  isplitl [Hp] <;> iassumption

theorem deal : bigSep Finset.univ (opened m ρ) ⊢ bigSep Finset.univ (dealt m ρ) := by
  unfold opened
  simp only [bigSep_sep']
  iintro ⟨HI, #HR, Hp, Hd⟩
  ihave HK := (BI.bigSep_exists_pi Finset.univ (fun (p : Cell) (κ : ℕ) => (cellInv EX (plan m ρ) κ (cell p.1 p.2) : sProp 𝕄))) $$ HI
  icases HK with ⟨%K, #HI⟩
  ihave Hp := (places_dealt (F := F)) $$ Hp
  ihave Hd := (duties_dealt (F := F)) $$ Hd
  have e : iprop(public_ m ρ K ∗ (bigSep Finset.univ fun c : Dev nD => places c) ∗ bigSep Finset.univ fun c : Dev nD => duties c)
      ⊢ bigSep Finset.univ (dealt m ρ) := by
    rw [← bigSep_sep']
    refine (sep_mono_left (BI.bigSep_of_persistent (Finset.univ : Finset (Dev nD)) (public_ m ρ K))).trans ?_
    rw [← bigSep_sep']
    exact bigSep_mono fun c _ => hand_out m ρ K c
  iapply e
  isplitr
  · unfold public_
    isplitr; · iexact HI
    iexact HR
  isplitl [Hp] <;> iassumption

/-! ## The credit at the launch -/

/-- If every device owes its peer's cell of a role `n` units, a device has that much credit on its own. -/
theorem paid (r : Role) (n : ℕ) (c : Dev nD) :
    (Pipeline.launchCred (fun d => tallyAt (cell (peer d) r) () n) c : sProp 𝕄) ⊢ cred (tallyAt (cell c r) () n) := by
  refine (Pipeline.launchCred_elim _ c (semOf r)).trans (Entails.of_eq (congrArg cred ?_))
  unfold tallyAt
  refine congrArg _ (Finsupp.ext fun u => ?_)
  cases u
  have e (d : Dev nD) : (tallyOn (cell (peer d) r) (Finsupp.single () n) : CellTallies nD τ sig Unit) (cell c r) () = if d = peer c then n else 0 := by
    rw [show (tallyOn (cell (peer d) r) (Finsupp.single () n) : CellTallies nD τ sig Unit) = tallyAt (cell (peer d) r) () n from rfl, tallyAt_apply]
    refine if_congr ⟨fun h => ?_, fun h => ⟨?_, rfl⟩⟩ rfl rfl
    · rw [(cell_eq_iff.mp h.1).1, peer_peer]
    · rw [h, peer_peer]
  rw [Pipeline.launchCredit_owing, Finsupp.single_eq_same, Finset.sum_congr rfl fun d _ => e d,
    Finset.sum_ite_eq' Finset.univ (peer c) fun _ => n, if_pos (Finset.mem_univ _)]

theorem credits (c : Dev nD) :
    (Pipeline.launchCred debt c : sProp 𝕄) ⊢ iprop(cred (tallyAt (cell c .ready) () 1) ∗ cred (tallyAt (cell c .landed) () credit)) := by
  rw [show (debt : Dev nD → CellTallies nD τ sig Unit) = fun d => tallyAt (cell (peer d) .landed) () credit + tallyAt (cell (peer d) .ready) () 1 from rfl,
    Pipeline.launchCred_add]
  iintro ⟨HL, HR⟩
  isplitl [HR]
  · iapply (paid (F := F) .ready 1 c); iexact HR
  · iapply (paid (F := F) .landed credit c); iexact HL

/-! ## The run -/

theorem share_full (c : Dev nD) (w : Fin cfg0.W) : (dats m ρ 0 c).share w = fullShare := by unfold Dat.share; split <;> rfl

theorem enter (c : Dev nD) :
    iprop(Pipeline.unscopedRestP Pipeline.Prefetch.none cfg0.spec c (fun b => m ((c : Thread nD τ).loc b)) ∗ levAts owable level
        ∗ Pipeline.launchCred debt c ∗ prngReg c (ρ c) ∗ dealt m ρ c)
      ⊢ |={Set.univ}=> iprop(start m ρ c ∗ emp) := by
  iintro ⟨-, Hlev, Hcr, -, HG⟩
  ihave Hc := (credits (F := F) c) $$ Hcr
  imodintro
  unfold start
  isplitl
  · isplitl [HG]; · iexact HG
    isplitl [Hc] <;> iassumption
  · iempintro

theorem first (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = before m ρ c from rfl, scopedRest0_eq]
  unfold before
  iintro ⟨Hs, -, Hr⟩
  isplitl [Hs] <;> iassumption

theorem last (c : Dev nD) :
    (dats m ρ 0 c).Φ (Fin.last cfg0.N) ⊢ iprop(unscopedSems0 c ∗ ownZero c ∗ Pipeline.scopedRest cfg0.spec c) := by
  rw [show (dats m ρ 0 c).Φ (Fin.last cfg0.N) = afterwards c from rfl, scopedRest0_eq, ownZero_eq, barrierZero_eq]
  unfold afterwards
  iintro ⟨Hr, ZR, ZS, ZL⟩
  isplitl [ZR]; · iexact ZR
  isplitl [ZS ZL]
  · isplitl [ZS] <;> iassumption
  iexact Hr

theorem stage_waits (c : Dev nD) : (levAts owable level : sProp 𝕄) ⊢ Pipeline.cellsWaits cfgs (dats m ρ) () 0 c :=
  Pipeline.cellsWaits_intro cfgs (dats m ρ) () 0 c fun w s t =>
    may_stage c _ (by fin_cases w <;> fin_cases s <;> exact fun _ => rfl) _ (by
      rcases t with ⟨_ | _, ht⟩
      · exact Or.inl rfl
      · exact Or.inr rfl)

/-- The arrays' contents when all is over. -/
def final (c : Dev nD) (w : Fin cfg0.W) : Buf (Elt F) ((cfg0.win w).arr.view.loc (c : Thread nD τ)) := (dats m ρ 0 c).arrAt w cfg0.N

def Final : PUnit × MemSt nD τ sig (Elt F) → Prop := fun r =>
  ∀ c : Dev nD, ∀ w : Fin cfg0.W, r.2.mem ((cfg0.win w).arr.view.loc (c : Thread nD τ)) = final m ρ c w

set_option maxRecDepth 8000 in
/-- For any float values, from any memory and with every semaphore at zero: every weakly fair execution terminates, the
    arrays of every device are at `final` and every semaphore is at zero. -/
theorem run_main : θ_run defs (onTc (τ := τ) (main (F := F))) (atLaunch m ρ) (fun r => Final m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ osem_facts (Pipeline.PreFacts.none _) EP defs₀ 𝒱₀ m ρ main
    (hmain := fun _ => rfl)
    (hbody := body_obligation m ρ) (hne := fun w => by fin_cases w <;> exact Nat.succ_pos _) (harr := arr_whole0) (hstage := stage_whole0)
    (hshare := share_full m ρ) (hdistinct := winFacts0.arr_inj)
    (O₀ := debt) (howed₀ := fun _ => rfl) (howedN := fun _ => rfl)
    (L := owable) (lv := level) (hL := owable_other) (hwaits := stage_waits m ρ)
    (G := freshOn m ρ) (G' := dealt m ρ) (u₀ := ghost0)
    (hu₀ := by
      unfold ghost0
      iintro Hu
      ihave H := (ownU_pair _ _) $$ Hu
      icases H with ⟨HP, HX⟩
      imod (make m ρ) $$ HX with HG
      imodintro
      isplitl [HP] <;> iassumption)
    (hglob := (open_all m ρ).trans (BI.fupd_mono (deal m ρ)))
    (hA := fun _ _ => rfl) (hpf := fun _ k => k.elim0)
    (X := start m ρ) (Y := fun c => unscopedSems0 c) (Z := fun _ => iprop(emp))
    (hX := enter m ρ) (hin := first m ρ) (hout := last m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## What the arrays hold -/

/-- The block of a window is its array whole, so the staged arguments are the arguments. -/
theorem xIn_eq (c : Dev nD) : xIn m ρ c = m ((c : Thread nD τ).loc main_arg0) :=
  Memref.readAt_unit_zero (Elt F) main_arg0 (funext fun a => by fin_cases a <;> rfl) _ _
theorem wIn_eq (c : Dev nD) : wIn m ρ c = m ((c : Thread nD τ).loc main_arg1) :=
  Memref.readAt_unit_zero (Elt F) main_arg1 (funext fun a => by fin_cases a <;> rfl) _ _
theorem labIn_eq (c : Dev nD) : labIn m ρ c = m ((c : Thread nD τ).loc main_arg2) :=
  Memref.readAt_unit_zero (Elt F) main_arg2 (funext fun a => by fin_cases a; rfl) _ _

theorem final_arg0 (c : Dev nD) : final m ρ c (0 : Fin 4) = m ((c : Thread nD τ).loc main_arg0) := (dats m ρ 0 c).arrAt_in (0 : Fin 4) rfl _
theorem final_arg1 (c : Dev nD) : final m ρ c (1 : Fin 4) = m ((c : Thread nD τ).loc main_arg1) := (dats m ρ 0 c).arrAt_in (1 : Fin 4) rfl _
theorem final_arg2 (c : Dev nD) : final m ρ c (2 : Fin 4) = m ((c : Thread nD τ).loc main_arg2) := (dats m ρ 0 c).arrAt_in (2 : Fin 4) rfl _

/-- The result array holds the result: its one block is the array whole. -/
theorem final_result (c : Dev nD) : final m ρ c (3 : Fin 4) = result m ρ c := by
  have h := (dats m ρ 0 c).arrAt_succ (3 : Fin 4) point
  rw [if_pos (flush0_3 point)] at h
  exact h.trans (Memref.write_access_unit_zero_univ (Elt F) main_v1 (funext fun a => by fin_cases a; rfl) _ _ _)

/-- The frame, with what the result array holds. -/
theorem run_results : θ_run defs (onTc (τ := τ) (main (F := F))) ⟨m, fun _ => 0, ρ⟩ (fun r => (∀ c : Dev nD,
      r.2.mem ((c.tc : Thread nD τ).loc main_v1) = result m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
    ∧ r.2.sem = fun _ => 0) :=
  (θ_run defs _ _).mono (fun _ h => ⟨fun c => ⟨(h.1 c (3 : Fin 4)).trans (final_result m ρ c), (h.1 c (0 : Fin 4)).trans (final_arg0 m ρ c),
    (h.1 c (1 : Fin 4)).trans (final_arg1 m ρ c), (h.1 c (2 : Fin 4)).trans (final_arg2 m ρ c)⟩, h.2⟩) (run_main m ρ)

end Cert.Exchange

end
-- ==== Proof.Frames.lean ====
/-
  The frames: each of the three programs runs, leaves its arguments as they were and ends with every counter at zero.
  The printed kernel and its idealized form are the same text, so one run over any float values serves both.
-/
module

public import proofs.«01_k».proof.Defs
public import proofs.«01_k».proof.Proof.Gen.Kernel
public import proofs.«01_k».proof.Proof.Gen.ReferenceIdeal.Run
public import proofs.«01_k».proof.Proof.Launch

@[expose] public section

noncomputable section

/-- The shapes of the precondition broadcast a scalar each, at one device's shapes. -/
instance Cert.Pre_finite_and_in_range_KernelIdeal.blockFacts : Cert.Pre_finite_and_in_range_KernelIdeal.Facts where
  bcast_S_S256x512 := by decide
  bcast_S_S512x4096 := by decide
  bcast_S_S256 := by decide

/-- The same at the whole arrays' shapes. -/
instance Cert.Pre_finite_and_in_range_ReferenceIdeal.wholeFacts : Cert.Pre_finite_and_in_range_ReferenceIdeal.Facts where
  bcast_S_S256x512 := by decide
  bcast_S_S512x8192 := by decide
  bcast_S_S256 := by decide

namespace Cert.Frames

open Idealize.ShloMosaic Idealize.SL.Sem

/-- The idealized kernel's frame at any float values. -/
theorem frame_any {F : FTy → Type} [FloatOps F] (m : (ℓ : Loc Cert.KernelIdeal.nD Cert.KernelIdeal.τ Cert.KernelIdeal.sig) → Buf (Elt F) ℓ)
    (g : Dev Cert.KernelIdeal.nD → PrngReg) :
    θ_run (Cert.KernelIdeal.defs (F := F)) (onTc (τ := Cert.KernelIdeal.τ) (Cert.KernelIdeal.main (F := F))) ⟨m, fun _ => 0, g⟩
      (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
        ∧ r.2.sem = fun _ => 0) :=
  (θ_run Cert.KernelIdeal.defs _ _).mono (fun _ h => ⟨fun c => (h.1 c).2, h.2⟩) (Cert.Exchange.run_results m g)

/-- The idealized kernel runs and gives back its arguments and counters. -/
theorem frame_ideal : Cert.quiescent_KernelIdeal := fun m g _ => frame_any (F := Ideal) m g

/-- The two body tables are one: their only label runs the same text. -/
theorem bodies_agree {F : FTy → Type} [FloatOps F] : Cert.Kernel.defs₀ (F := F) = Cert.KernelIdeal.defs₀ (F := F) := by
  refine congrArg Defs.onTc (funext fun l => funext fun a => ?_)
  fin_cases l
  rfl

/-- So are the tables with the pipeline's labels. -/
theorem tables_agree {F : FTy → Type} [FloatOps F] : Cert.Kernel.defs (F := F) = Cert.KernelIdeal.defs (F := F) :=
  congrArg (Pipeline.defs Cert.KernelIdeal.pcfgs) bodies_agree

/-- So does the printed kernel, at its bit patterns. -/
theorem frame_kernel : Cert.quiescent_Kernel := fun m g _ => by
  rw [tables_agree]
  exact frame_any (F := Bits) m g

/-- The reference declares no counter, so its run's own account of its arguments is its frame. -/
theorem frame_reference : Cert.quiescent_ReferenceIdeal := fun m g _ =>
  (θ_run Cert.ReferenceIdeal.defs _ _).mono
    (fun r h => ⟨fun c => (h c).2, sem_eq_zero_of_no_sems (by decide) r.2⟩) (Cert.ReferenceIdeal.Value.run (F := Ideal) m g)

end Cert.Frames

end
-- ==== Proof.KernelValue.lean ====
/-
  What the kernel leaves in each device's result, element by element over the extended reals, in terms of the whole
  weight array. A device holds one of the two bands of 4096 columns; its peer holds the other.
-/
module

public import proofs.«01_k».proof.Proof.Launch
public import Idealize.ShloMosaic.Lib.Layout
public import Idealize.ShloMosaic.Lib.Pointwise

@[expose] public section

noncomputable section

namespace Cert.Exchange

open Cert.KernelIdeal Cert.KernelIdeal.Gen
open Idealize.ShloMosaic Idealize.ShloMosaic.TcCoe
open scoped BigOperators

/-- The scores: row `r` of the activations against column `j` of the whole weights. -/
def score (x : FVec Ideal ⟨2, ![256, 512]⟩ .bf16) (w : FVec Ideal ⟨2, ![512, 8192]⟩ .bf16) (r : Fin 256) (j : Fin 8192) : EReal :=
  ∑ q : Fin 512, x (ix2 r q) * w (ix2 q j)

/-- The band of columns that a device holds. -/
def band (c : Dev nD) : ℕ := c.val / 2 % 2

theorem band_lt (c : Dev nD) : band c < 2 := Nat.mod_lt _ (by decide)

/-- The peer holds the other band. -/
theorem band_peer (c : Dev nD) : band (peer c) = 1 - band c := by revert c; decide

/-- Column `k` of a band is column `4096 * b + k` of the whole. -/
def column (c : Dev nD) (k : Fin 4096) : Fin 8192 := ⟨4096 * band c + k.val, by have := band_lt c; have := k.isLt; omega⟩

/-- A device's block of the weights is its band of columns. -/
theorem block_column (c : Dev nD) (w : FVec Ideal ⟨2, ![512, 8192]⟩ .bf16) (q : Fin 512) (k : Fin 4096) :
    (Layout.blockN ⟨2, ![512, 4096]⟩ ⟨2, ![512, 8192]⟩ (Layout.meshBlock [2, 2, 2] ![[], [1]] c) w) (ix2 q k) = w (ix2 q (column c k)) := by
  have hc : Layout.meshLin [2, 2, 2] c.val [1] = band c := by revert c; decide
  rw [Layout.blockN_apply]
  refine congrArg w (funext fun a => Fin.ext ?_)
  match a with
  | ⟨0, _⟩ =>
    show 0 * 512 + q.val = q.val
    omega
  | ⟨1, _⟩ =>
    show Layout.meshLin [2, 2, 2] c.val [1] * 4096 + k.val = 4096 * band c + k.val
    rw [hc, Nat.mul_comm]

/-- The first column's number of a band, as the kernel reckons it from the device's number. -/
theorem band_word (c : Dev nD) :
    Scalar.muli (Scalar.remsi (Scalar.divsi (Dev.word c) 2#32) 2#32) 4096#32 = BitVec.ofNat 32 (4096 * band c) := by
  revert c; decide

/-- The kernel's test of a column against a label. -/
theorem label_test (c : Dev nD) (k : Fin 4096) (l : BitVec 32) (a : EReal) :
    Scalar.select (IntOp.cmpi .eq (IntOp.addi (BitVec.ofNat 32 k.val) (BitVec.ofNat 32 (4096 * band c))) l) a 0
      = if (column c k).val = l.toNat then a else 0 := by
  have hk := k.isLt
  have hb := band_lt c
  have hw : BitVec.ofNat 32 k.val + BitVec.ofNat 32 (4096 * band c) = BitVec.ofNat 32 (column c k).val := by
    rw [← BitVec.ofNat_add, Nat.add_comm]; rfl
  have hv : (BitVec.ofNat 32 (column c k).val).toNat = (column c k).val := by
    rw [BitVec.toNat_ofNat]; exact Nat.mod_eq_of_lt (lt_trans (column c k).isLt (by decide))
  show (if BitVec.ofBool (BitVec.ofNat 32 k.val + BitVec.ofNat 32 (4096 * band c) == l) = 1#1 then a else 0) = _
  rw [hw]
  by_cases h : (column c k).val = l.toNat
  · have e : BitVec.ofNat 32 (column c k).val = l := BitVec.eq_of_toNat_eq (hv.trans h)
    rw [if_pos h, e]; simp
  · have e : BitVec.ofNat 32 (column c k).val ≠ l := fun e => h (hv.symm.trans (congrArg BitVec.toNat e))
    rw [if_neg h, beq_false_of_ne e]; rfl

theorem products_apply (x : FVec Ideal S256x512 .bf16) (w : FVec Ideal S512x4096 .bf16) (r : Fin 256) (k : Fin 4096) :
    k0_pay2 (F := Ideal) x w (ix2 r k) = ∑ q : Fin 512, x (ix2 r q) * w (ix2 q k) := by
  pointwise [k0_pay2]

theorem sums_apply (x : FVec Ideal S256x512 .bf16) (w : FVec Ideal S512x4096 .bf16) (r : Fin 256) :
    k0_pay3 (F := Ideal) x w (ix1 r) = ∑ k : Fin 4096, Ideal.exp (k0_pay2 (F := Ideal) x w (ix2 r k)) := by
  pointwise [k0_pay3]

theorem picks_apply (c : Dev nD) (x : FVec Ideal S256x512 .bf16) (w : FVec Ideal S512x4096 .bf16) (l : IVec S256 32) (r : Fin 256) :
    k0_pay4 (F := Ideal) c x w l (ix1 r)
      = ∑ k : Fin 4096, if (column c k).val = (l (ix1 r)).toNat then k0_pay2 (F := Ideal) x w (ix2 r k) else 0 := by
  pointwise [k0_pay4]
  exact Finset.sum_congr rfl fun k _ => by rw [band_word, label_test]

theorem result_apply (a b a' b' : FVec Ideal S256 .f32) (r : Fin 256) :
    k0_pay1 (F := Ideal) a b (k0_pay5 a') (k0_pay6 b') (ix1 r)
      = Ideal.log (a (ix1 r) + a' (ix1 r)) - (b (ix1 r) + b' (ix1 r)) := by
  pointwise [k0_pay1, k0_pay5, k0_pay6]

/-- The two bands together are all columns, whichever of them comes first. -/
theorem both_bands (c : Dev nD) (f : Fin 8192 → EReal) :
    (∑ k : Fin 4096, f (column c k)) + ∑ k : Fin 4096, f (column (peer c) k) = ∑ j : Fin 8192, f j := by
  rw [Fin.sum_univ_two_halves 4096 4096 rfl f]
  have hb := band_lt c
  have hp := band_peer c
  rcases (by omega : band c = 0 ∨ band c = 1) with h | h
  · congr 1 <;> refine Finset.sum_congr rfl fun k _ => congrArg f (Fin.ext ?_)
    · show 4096 * band c + k.val = k.val; omega
    · show 4096 * band (peer c) + k.val = 4096 + k.val; omega
  · rw [add_comm]
    congr 1 <;> refine Finset.sum_congr rfl fun k _ => congrArg f (Fin.ext ?_)
    · show 4096 * band (peer c) + k.val = k.val; omega
    · show 4096 * band c + k.val = 4096 + k.val; omega

variable (m : (ℓ : Loc nD τ sig) → Buf (Elt Ideal) ℓ) (ρ : Dev nD → PrngReg)

/-- If every device holds the same activations and labels, and its band of one weight array, then each device's result
    at a row is the logarithm of the sum of the exponentials of the row's scores, less the score at the row's label. -/
theorem result_value (x : FVec Ideal ⟨2, ![256, 512]⟩ .bf16) (w : FVec Ideal ⟨2, ![512, 8192]⟩ .bf16) (l : IVec ⟨1, ![256]⟩ 32)
    (hx : ∀ c : Dev nD, m ((c : Thread nD τ).loc main_arg0) = x)
    (hw : ∀ c : Dev nD, m ((c : Thread nD τ).loc main_arg1)
      = Layout.blockN ⟨2, ![512, 4096]⟩ ⟨2, ![512, 8192]⟩ (Layout.meshBlock [2, 2, 2] ![[], [1]] c) w)
    (hl : ∀ c : Dev nD, m ((c : Thread nD τ).loc main_arg2) = l)
    (c : Dev nD) (r : Fin 256) (t : Fin 8192) (ht : (l (ix1 r)).toNat = t.val) :
    result m ρ c (ix1 r) = Ideal.log (∑ j : Fin 8192, Ideal.exp (score x w r j)) - score x w r t := by
  have hp (d : Dev nD) (k : Fin 4096) : k0_pay2 (F := Ideal) (xIn m ρ d) (wIn m ρ d) (ix2 r k) = score x w r (column d k) := by
    rw [products_apply, xIn_eq, wIn_eq, hx, hw]
    exact Finset.sum_congr rfl fun q _ => congrArg (x (ix2 r q) * ·) (block_column d w q k)
  have hs (d : Dev nD) : sums m ρ d (ix1 r) = ∑ k : Fin 4096, Ideal.exp (score x w r (column d k)) :=
    (sums_apply (xIn m ρ d) (wIn m ρ d) r).trans (Finset.sum_congr rfl fun k _ => by rw [hp])
  have hq (d : Dev nD) : picks m ρ d (ix1 r)
      = ∑ k : Fin 4096, (fun j : Fin 8192 => if j = t then score x w r j else 0) (column d k) := by
    refine (picks_apply d (xIn m ρ d) (wIn m ρ d) (labIn m ρ d) r).trans (Finset.sum_congr rfl fun k _ => ?_)
    rw [hp, labIn_eq, hl, ht]
    exact if_congr Fin.ext_iff.symm rfl rfl
  refine (result_apply (sums m ρ c) (picks m ρ c) (sums m ρ (peer c)) (picks m ρ (peer c)) r).trans ?_
  rw [hs, hs, hq, hq, both_bands c fun j => Ideal.exp (score x w r j), both_bands c fun j => if j = t then score x w r j else 0,
    Finset.sum_ite_eq' Finset.univ t fun j => score x w r j, if_pos (Finset.mem_univ t)]

end Cert.Exchange

end
-- ==== Proof.LogSum.lean ====
/-
  The identity between the two ways of taking the logarithm of a sum of exponentials, over the reals: the plain one, and
  the one that takes the greatest exponent out first.
-/
module

public import Idealize.ShloMosaic.PureOps.Ideal.Laws

@[expose] public section

namespace Cert.LogSum

open Idealize.ShloMosaic
open scoped BigOperators

variable {ι : Type} [Fintype ι] [Nonempty ι]

/-- The greatest of finitely many real numbers, at least one, is a real number. -/
theorem greatest_real (f : ι → ℝ) : ∃ μ : ℝ, (Finset.univ.fold max (⊥ : EReal) fun i => (f i : EReal)) = (μ : EReal) := by
  obtain ⟨i, -, h⟩ := Finset.exists_mem_eq_sup (Finset.univ : Finset ι) Finset.univ_nonempty fun i => (f i : EReal)
  exact ⟨f i, h⟩

/-- A finite sum of real numbers, taken among the extended reals. -/
theorem sum_coe (f : ι → ℝ) : ∑ i, (f i : EReal) = ((∑ i, f i : ℝ) : EReal) := by
  classical
  refine Finset.induction_on (Finset.univ : Finset ι) (by simp) fun a s ha ih => ?_
  rw [Finset.sum_insert ha, Finset.sum_insert ha, ih, EReal.coe_add]

/-- The logarithm of a positive real number. -/
theorem log_pos {t : ℝ} (ht : 0 < t) : Ideal.log (t : EReal) = (Real.log t : EReal) := by
  show (if t ≤ 0 then ⊥ else (Real.log t : EReal)) = _
  rw [if_neg ht.not_ge]

/-- The logarithm of the sum of exponentials of reals. -/
theorem log_sum (f : ι → ℝ) : Ideal.log (∑ i, Ideal.exp (f i : EReal)) = (Real.log (∑ i, Real.exp (f i)) : EReal) := by
  rw [← log_pos (Finset.sum_pos (fun i _ => Real.exp_pos (f i)) Finset.univ_nonempty), ← sum_coe]
  rfl

/-- Taking the greatest exponent out of the sum and adding it back outside of the logarithm changes nothing. -/
theorem shifted (f : ι → ℝ) :
    (Finset.univ.fold max (⊥ : EReal) fun i => (f i : EReal))
        + Ideal.log (∑ i, Ideal.exp ((f i : EReal) - Finset.univ.fold max (⊥ : EReal) fun i => (f i : EReal)))
      = Ideal.log (∑ i, Ideal.exp (f i : EReal)) := by
  obtain ⟨μ, hμ⟩ := greatest_real f
  have e : ∑ i, Real.exp (f i - μ) = Real.exp (-μ) * ∑ i, Real.exp (f i) := by
    rw [Finset.mul_sum]
    exact Finset.sum_congr rfl fun i _ => by rw [← Real.exp_add]; ring_nf
  have hp : 0 < ∑ i, Real.exp (f i) := Finset.sum_pos (fun i _ => Real.exp_pos (f i)) Finset.univ_nonempty
  simp only [hμ, ← EReal.coe_sub]
  rw [log_sum, log_sum, e, Real.log_mul (Real.exp_pos _).ne' hp.ne', Real.log_exp, ← EReal.coe_add]
  congr 1; ring

end Cert.LogSum

end
-- ==== Proof.ReferenceValue.lean ====
/-
  What the reference leaves in its result, element by element over the extended reals.
-/
module

public import proofs.«01_k».proof.Proof.Gen.ReferenceIdeal.Run
public import Idealize.ShloMosaic.Lib.Pointwise

@[expose] public section

noncomputable section

namespace Cert.Textbook

open Cert.ReferenceIdeal Cert.ReferenceIdeal.Gen
open Idealize.ShloMosaic Idealize.ShloMosaic.TcCoe Idealize.SL.Sem
open scoped BigOperators

/-! ## The result in named pieces -/

/-- The scores of every row at every column. -/
def scores (x : FVec Ideal S256x512 .bf16) (w : FVec Ideal S512x8192 .bf16) : FVec Ideal S256x8192 .f32 :=
  Host.dotGeneral dot_S256x512_S512x8192_S256x8192_1_0_0_1_n_n none (extf .f32 x bitsLt_bf16_f32) (extf .f32 w bitsLt_bf16_f32)

/-- Each row's greatest score. -/
def greatest (D : FVec Ideal S256x8192 .f32) : FVec Ideal S256 .f32 :=
  Host.reduce FloatOps.maximumf D (constant S_ .f32 0xFF800000#32) reducesTo_S256x8192_S256_d1 h_S_

/-- Each row's logarithm of the sum of exponentials, the value `M` taken out of the exponents first. -/
def normalizer (D : FVec Ideal S256x8192 .f32) (M : FVec Ideal S256 .f32) : FVec Ideal S256 .f32 :=
  shapeCast S256 (addf (broadcastInDim S256x1 ![0] bcast_S256_S256x1_0 M)
    (Host.log (broadcastInDim S256x1 ![0] bcast_S256_S256x1_0
      (Host.reduceAdd
        (Host.exp (subf D (broadcastInDim S256x8192 ![0, 1] bcast_S256x1_S256x8192_0_1 (broadcastInDim S256x1 ![0] bcast_S256_S256x1_0 M))))
        (constant S_ .f32 0x00000000#32) reducesTo_S256x8192_S256_d1 h_S_)))) shapeCasts_S256x1_S256

/-- A signed index, a negative one counted from the end of an axis of `n` places. -/
def wrapped (n : BitVec 32) (i : IVec S256 32) : IVec S256 32 :=
  select (cmpi .slt i (broadcastInDim S256 ![] bcast_S_S256 (constantI S_ 32 0#32)))
    (addi i (broadcastInDim S256 ![] bcast_S_S256 (constantI S_ 32 n))) i

/-- The pairs of indices, a row's number and its label, at which the scores are read. -/
def places (l : IVec S256 32) : IVec S256x2 32 :=
  concatenate S256x2 1
    [⟨S256x1, broadcastInDim S256x1 ![0] bcast_S256_S256x1_0 (wrapped 256#32 (iotaInDim S256 32 0))⟩,
     ⟨S256x1, broadcastInDim S256x1 ![0] bcast_S256_S256x1_0 (wrapped 8192#32 l)⟩] concatenates_S256x1_S256x1_S256x2_d1

/-- The result: the normalizer less the score at the label. -/
def loss (x : FVec Ideal S256x512 .bf16) (w : FVec Ideal S512x8192 .bf16) (l : IVec S256 32) : FVec Ideal S256 .f32 :=
  subf (normalizer (scores x w) (greatest (scores x w)))
    (Host.gather gather_S256x8192_S256x2_S256_n_01_n_n_01_1_11 (scores x w) (places l))

/-- The reference ends with that result and its arguments as they were. -/
theorem run_loss (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v28)
        = loss (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.ReferenceIdeal.Value.run (F := Ideal) m ρ

/-! ## The pieces at an index -/

theorem scores_apply (x : FVec Ideal S256x512 .bf16) (w : FVec Ideal S512x8192 .bf16) (r : Fin 256) (j : Fin 8192) :
    scores x w (ix2 r j) = ∑ q : Fin 512, x (ix2 r q) * w (ix2 q j) := by
  pointwise [scores]

/-- The pattern that starts the maximum is the least extended real. -/
theorem lowest : Ideal.ofBits .f32 0xFF800000#32 = ⊥ := by simp [Ideal.ofBits, Ideal.ieee]

theorem greatest_apply (D : FVec Ideal S256x8192 .f32) (r : Fin 256) :
    greatest D (ix1 r) = Finset.univ.fold max (⊥ : EReal) fun j : Fin 8192 => D (ix2 r j) := by
  rw [← lowest]
  pointwise [greatest]

theorem normalizer_apply (D : FVec Ideal S256x8192 .f32) (M : FVec Ideal S256 .f32) (r : Fin 256) :
    normalizer D M (ix1 r) = M (ix1 r) + Ideal.log (∑ j : Fin 8192, Ideal.exp (D (ix2 r j) - M (ix1 r))) := by
  pointwise [normalizer]

theorem difference_apply (a b : FVec Ideal S256 .f32) (r : Fin 256) : subf a b (ix1 r) = a (ix1 r) - b (ix1 r) := rfl

/-- An index that is not negative is not wrapped. -/
theorem wrapped_word (n i : BitVec 32) (h : i.toNat < 2 ^ 31) : Scalar.select (IntOp.cmpi .slt i 0#32) (IntOp.addi i n) i = i := by
  have e : IntOp.cmpi .slt i 0#32 = 0#1 := by
    have : i.slt 0#32 = false := by
      rw [BitVec.slt_eq_decide, BitVec.toInt_eq_toNat_of_lt (by omega)]
      simp
    show BitVec.ofBool (i.slt 0#32) = 0#1
    rw [this]; rfl
  rw [e]; rfl

theorem places_row (l : IVec S256 32) (r : Fin 256) : places l (ix2 r 0) = BitVec.ofNat 32 r.val := by
  pointwise [places, wrapped]
  exact wrapped_word _ _ (by rw [BitVec.toNat_ofNat]; have := r.isLt; omega)

theorem places_label (l : IVec S256 32) (r : Fin 256) (h : (l (ix1 r)).toNat < 2 ^ 31) : places l (ix2 r 1) = l (ix1 r) := by
  pointwise [places, wrapped]
  exact wrapped_word _ _ h

/-- The gather reads the scores at the pair of indices of each row, when both are in range. -/
theorem gather_apply (D : FVec Ideal S256x8192 .f32) (i : IVec S256x2 32) (r s : Fin 256) (t : Fin 8192)
    (hs : i (ix2 r 0) = BitVec.ofNat 32 s.val) (ht : i (ix2 r 1) = BitVec.ofNat 32 t.val) :
    Host.gather gather_S256x8192_S256x2_S256_n_01_n_n_01_1_11 D i (ix1 r) = D (ix2 s t) := by
  have toInt (n : ℕ) (h : n < 8192) : (BitVec.ofNat 32 n).toInt.toNat = n := by
    have e : (BitVec.ofNat 32 n).toNat = n := by rw [BitVec.toNat_ofNat]; omega
    rw [BitVec.toInt_eq_toNat_of_lt (by omega), e]; rfl
  have e0 (j) (hj : j = ix2 r 0) : (i j).toInt.toNat = s.val := by rw [hj, hs]; exact toInt _ (by have := s.isLt; omega)
  have e1 (j) (hj : j = ix2 r 1) : (i j).toInt.toNat = t.val := by rw [hj, ht]; exact toInt _ t.isLt
  refine congrArg D (funext fun a => Fin.ext ?_)
  match a with
  | ⟨0, _⟩ =>
    refine (congrArg (min · 255) (e0 _ ?_)).trans (Nat.min_eq_left (by have := s.isLt; omega))
    funext b; match b with | ⟨0, _⟩ => rfl | ⟨1, _⟩ => rfl
  | ⟨1, _⟩ =>
    refine (congrArg (min · 8191) (e1 _ ?_)).trans (Nat.min_eq_left (by have := t.isLt; omega))
    funext b; match b with | ⟨0, _⟩ => rfl | ⟨1, _⟩ => rfl

/-- The result at a row whose label is column `t`. -/
theorem loss_apply (x : FVec Ideal S256x512 .bf16) (w : FVec Ideal S512x8192 .bf16) (l : IVec S256 32) (r : Fin 256) (t : Fin 8192)
    (ht : (l (ix1 r)).toNat = t.val) :
    loss x w l (ix1 r)
      = (Finset.univ.fold max (⊥ : EReal) fun j : Fin 8192 => scores x w (ix2 r j))
          + Ideal.log (∑ j : Fin 8192, Ideal.exp (scores x w (ix2 r j)
              - Finset.univ.fold max (⊥ : EReal) fun j : Fin 8192 => scores x w (ix2 r j)))
        - scores x w (ix2 r t) := by
  have hlt : (l (ix1 r)).toNat < 2 ^ 31 := by have := t.isLt; omega
  have hl : places l (ix2 r 1) = BitVec.ofNat 32 t.val := by
    rw [places_label l r hlt, ← ht, BitVec.ofNat_toNat, BitVec.setWidth_eq]
  rw [loss, difference_apply, normalizer_apply, greatest_apply, gather_apply (scores x w) (places l) r r t (places_row l r) hl]

end Cert.Textbook

end
-- ==== Proof.Agreement.lean ====
/-
  The kernel's result is the reference's: the precondition read at an element, the scores as real numbers, and the two
  ways of taking the logarithm of their exponentials' sum brought together.
-/
module

public import proofs.«01_k».proof.Proof.Frames
public import proofs.«01_k».proof.Proof.KernelValue
public import proofs.«01_k».proof.Proof.LogSum
public import proofs.«01_k».proof.Proof.ReferenceValue

@[expose] public section

noncomputable section

/-! ## The precondition at an element -/

namespace Cert.Condition

open Cert.Pre_finite_and_in_range_KernelIdeal
open Idealize.ShloMosaic

/-- A conjunction of two bits is set when both are. -/
theorem both_set {a b : BitVec 1} (h : IntOp.andi a b = 1#1) : a = 1#1 ∧ b = 1#1 := by
  revert a b; decide

theorem bit_set {p : Bool} (h : BitVec.ofBool p = 1#1) : p = true := by
  revert p; decide

/-- The two patterns compared with are the least and the greatest extended real. -/
theorem least : Ideal.ofBits .bf16 65408#16 = ⊥ := by simp [Ideal.ofBits, Ideal.ieee]

theorem most : Ideal.ofBits .bf16 32640#16 = ⊤ := by simp [Ideal.ofBits, Ideal.ieee]

/-- A value strictly between the two patterns is a real number. -/
theorem real_of_between {a : EReal}
    (h : IntOp.andi (BitVec.ofBool (decide (Ideal.ofBits .bf16 65408#16 < a))) (BitVec.ofBool (decide (a < Ideal.ofBits .bf16 32640#16))) = 1#1) :
    a = ((a.toReal : ℝ) : EReal) := by
  have h₁ := of_decide_eq_true (bit_set (both_set h).1)
  have h₂ := of_decide_eq_true (bit_set (both_set h).2)
  rw [least] at h₁
  rw [most] at h₂
  exact (EReal.coe_toReal h₂.ne h₁.ne').symm

/-- A word that is at least 0 and less than 8192 as a signed number is a column's number. -/
theorem column_of_range {l : BitVec 32} (h : IntOp.andi (IntOp.cmpi .sge l 0#32) (IntOp.cmpi .slt l 8192#32) = 1#1) :
    l.toNat < 8192 := by
  have h₁ : (0#32 : BitVec 32).sle l = true := bit_set (both_set h).1
  have h₂ : l.slt 8192#32 = true := bit_set (both_set h).2
  have h₃ : (0 : ℤ) ≤ l.toInt := by simpa [BitVec.sle_eq_decide] using h₁
  have h₄ : l.toInt < 8192 := by simpa [BitVec.slt_eq_decide] using h₂
  have := l.isLt
  rw [BitVec.toInt_eq_toNat_cond] at h₃ h₄
  split at h₄ <;> omega

variable {x : FVec Ideal S256x512 .bf16} {w : FVec Ideal S512x4096 .bf16} {l : IVec S256 32}

/-- The activations are real numbers. -/
theorem real_x (h : (fn (F := Ideal) x w l).1 = fun _ => 1#1) (r : Fin 256) (q : Fin 512) :
    x (ix2 r q) = ((x (ix2 r q)).toReal : EReal) := by
  refine real_of_between (Eq.trans ?_ (congrFun h (ix2 r q)))
  pointwise [fn]

/-- A block of the weights holds real numbers. -/
theorem real_w (h : (fn (F := Ideal) x w l).2.1 = fun _ => 1#1) (q : Fin 512) (k : Fin 4096) :
    w (ix2 q k) = ((w (ix2 q k)).toReal : EReal) := by
  refine real_of_between (Eq.trans ?_ (congrFun h (ix2 q k)))
  pointwise [fn]

/-- The labels are columns' numbers. -/
theorem label_lt (h : (fn (F := Ideal) x w l).2.2 = fun _ => 1#1) (r : Fin 256) : (l (ix1 r)).toNat < 8192 := by
  refine column_of_range (Eq.trans ?_ (congrFun h (ix1 r)))
  pointwise [fn]

end Cert.Condition

/-! ## The two results -/

namespace Cert.Agreement

open Idealize.ShloMosaic Idealize.SL.Sem
open Cert.Exchange (score column band)
open scoped BigOperators

/-- Every column lies in the band of some device. -/
theorem column_held (j : Fin 8192) : ∃ (c : Dev Cert.KernelIdeal.nD) (k : Fin 4096), column c k = j := by
  have hj := j.isLt
  have first : band (0 : Dev Cert.KernelIdeal.nD) = 0 := by decide
  have second : band (2 : Dev Cert.KernelIdeal.nD) = 1 := by decide
  by_cases h : j.val < 4096
  · refine ⟨0, ⟨j.val, h⟩, Fin.ext ?_⟩
    show 4096 * band 0 + j.val = j.val
    rw [first]; omega
  · refine ⟨2, ⟨j.val - 4096, by omega⟩, Fin.ext ?_⟩
    show 4096 * band 2 + (j.val - 4096) = j.val
    rw [second]; omega

/-- The scores of real activations with real weights are real. -/
theorem score_real (x : FVec Ideal ⟨2, ![256, 512]⟩ .bf16) (w : FVec Ideal ⟨2, ![512, 8192]⟩ .bf16)
    (hx : ∀ r q, x (ix2 r q) = ((x (ix2 r q)).toReal : EReal)) (hw : ∀ q j, w (ix2 q j) = ((w (ix2 q j)).toReal : EReal))
    (r : Fin 256) (j : Fin 8192) :
    score x w r j = ((∑ q : Fin 512, (x (ix2 r q)).toReal * (w (ix2 q j)).toReal : ℝ) : EReal) := by
  rw [← LogSum.sum_coe]
  exact Finset.sum_congr rfl fun q _ => by rw [EReal.coe_mul, ← hx, ← hw]

/-- With real scores and a label in range, the reference's result is the logarithm of the sum of exponentials of the
    scores, less the score at the label. -/
theorem loss_value (x : FVec Ideal ⟨2, ![256, 512]⟩ .bf16) (w : FVec Ideal ⟨2, ![512, 8192]⟩ .bf16) (l : IVec ⟨1, ![256]⟩ 32)
    (hx : ∀ r q, x (ix2 r q) = ((x (ix2 r q)).toReal : EReal)) (hw : ∀ q j, w (ix2 q j) = ((w (ix2 q j)).toReal : EReal))
    (r : Fin 256) (t : Fin 8192) (ht : (l (ix1 r)).toNat = t.val) :
    Textbook.loss x w l (ix1 r) = Ideal.log (∑ j : Fin 8192, Ideal.exp (score x w r j)) - score x w r t := by
  have hs (j : Fin 8192) : Textbook.scores x w (ix2 r j) = score x w r j := Textbook.scores_apply x w r j
  rw [Textbook.loss_apply x w l r t ht]
  simp only [hs, score_real x w hx hw]
  rw [LogSum.shifted]

/-- From initial memories that agree, the arguments real and the labels in range, every device's result is the
    reference's. -/
theorem results_agree (m : (ℓ : Loc Cert.KernelIdeal.nD Cert.KernelIdeal.τ Cert.KernelIdeal.sig) → Buf (Elt Ideal) ℓ)
    (g : Dev Cert.KernelIdeal.nD → PrngReg) (hm : Cert.Pre_KernelIdeal_finite_and_in_range_KernelIdeal m)
    (x : FVec Ideal ⟨2, ![256, 512]⟩ .bf16) (w : FVec Ideal ⟨2, ![512, 8192]⟩ .bf16) (l : IVec ⟨1, ![256]⟩ 32)
    (hx : ∀ c : Dev Cert.KernelIdeal.nD, m ((c.tc : Thread Cert.KernelIdeal.nD Cert.KernelIdeal.τ).loc Cert.KernelIdeal.main_arg0) = x)
    (hw : ∀ c : Dev Cert.KernelIdeal.nD, m ((c.tc : Thread Cert.KernelIdeal.nD Cert.KernelIdeal.τ).loc Cert.KernelIdeal.main_arg1)
      = Layout.blockN ⟨2, ![512, 4096]⟩ ⟨2, ![512, 8192]⟩ (Layout.meshBlock [2, 2, 2] ![[], [1]] c) w)
    (hl : ∀ c : Dev Cert.KernelIdeal.nD, m ((c.tc : Thread Cert.KernelIdeal.nD Cert.KernelIdeal.τ).loc Cert.KernelIdeal.main_arg2) = l)
    (c : Dev Cert.KernelIdeal.nD) : Exchange.result m g c = Textbook.loss x w l := by
  have realX (r : Fin 256) (q : Fin 512) : x (ix2 r q) = ((x (ix2 r q)).toReal : EReal) := by
    rw [← hx c]; exact Condition.real_x (hm c).1 r q
  have realW (q : Fin 512) (j : Fin 8192) : w (ix2 q j) = ((w (ix2 q j)).toReal : EReal) := by
    obtain ⟨d, k, rfl⟩ := column_held j
    have h := Condition.real_w (hm d).2.1 q k
    rw [hw d, Exchange.block_column d w q k] at h
    exact h
  have inRange (r : Fin 256) : (l (ix1 r)).toNat < 8192 := by
    rw [← hl c]; exact Condition.label_lt (hm c).2.2 r
  funext i
  rw [eq_ix1 i]
  exact (Exchange.result_value m g x w l hx hw hl c _ ⟨_, inRange _⟩ rfl).trans
    (loss_value x w l realX realW _ ⟨_, inRange _⟩ rfl).symm

/-- The value claim: kernel and reference, run from memories that agree, end with one and the same result. -/
theorem value : Cert.algebraic_KernelIdeal_ReferenceIdeal_pre_finite_and_in_range_KernelIdeal := fun m g m' g' hm hin =>
  ⟨_,
    (θ_run Cert.KernelIdeal.defs _ _).mono
      (fun _ h c => ⟨(h.1 c).1.trans
        (results_agree m g hm _ _ _ (fun d => (hin d).1) (fun d => (hin d).2.1) (fun d => (hin d).2.2) c), (h.1 c).2⟩)
      (Exchange.run_results m g),
    (θ_run Cert.ReferenceIdeal.defs _ _).mono (fun _ h => h _) (Textbook.run_loss m' g')⟩

end Cert.Agreement

end
-- ==== Proof.lean ====
/-
  The certificate: the frames of the three programs, the kernel's idealized form standing for the kernel, and the value
  claim.
-/
module

public import proofs.«01_k».proof.Defs
public import proofs.«01_k».proof.Proof.Agreement
public import proofs.«01_k».proof.Proof.Frames

@[expose] public section

noncomputable section

namespace Cert.Proof

/-- Everything claimed. -/
theorem claim : Cert.Claim :=
  ⟨Cert.Kernel.Gen.facts, Cert.KernelIdeal.Gen.facts, Cert.ReferenceIdeal.Gen.facts,
    Cert.Pre_finite_and_in_range_KernelIdeal.blockFacts, Cert.Pre_finite_and_in_range_ReferenceIdeal.wholeFacts,
    Frames.frame_kernel, Frames.frame_ideal, fun m g _ => Frames.frame_ideal m g trivial,
    Frames.frame_reference, fun m g _ => Frames.frame_reference m g trivial, trivial, Agreement.value⟩

end Cert.Proof

end
